-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x768 : Shape := ⟨2, ![1024, 768]⟩
abbrev S8192x768 : Shape := ⟨2, ![8192, 768]⟩
abbrev S8192x16x768 : Shape := ⟨3, ![8192, 16, 768]⟩
abbrev S8x1024 : Shape := ⟨2, ![8, 1024]⟩
abbrev S512x768 : Shape := ⟨2, ![512, 768]⟩
abbrev S16x8x1024 : Shape := ⟨3, ![16, 8, 1024]⟩
abbrev S1024 : Shape := ⟨1, ![1024]⟩
abbrev S1024x1 : Shape := ⟨2, ![1024, 1]⟩
abbrev S512 : Shape := ⟨1, ![512]⟩
abbrev S512x1 : Shape := ⟨2, ![512, 1]⟩
abbrev S512x1024 : Shape := ⟨2, ![512, 1024]⟩
abbrev S1x1024 : Shape := ⟨2, ![1, 1024]⟩
abbrev S4x1024 : Shape := ⟨2, ![4, 1024]⟩
abbrev S1x8x1024 : Shape := ⟨3, ![1, 8, 1024]⟩
abbrev S128x1024 : Shape := ⟨2, ![128, 1024]⟩
abbrev S786432x128 : Shape := ⟨2, ![786432, 128]⟩
abbrev S1024x8 : Shape := ⟨2, ![1024, 8]⟩
abbrev S8192 : Shape := ⟨1, ![8192]⟩
abbrev S8192x1 : Shape := ⟨2, ![8192, 1]⟩
abbrev S_ : Shape := ⟨0, ![]⟩
abbrev S48 : Shape := ⟨1, ![48]⟩
abbrev S1x48 : Shape := ⟨2, ![1, 48]⟩
abbrev S8192x48 : Shape := ⟨2, ![8192, 48]⟩
abbrev S393216 : Shape := ⟨1, ![393216]⟩
abbrev S1024x384 : Shape := ⟨2, ![1024, 384]⟩
abbrev S393216x128 : Shape := ⟨2, ![393216, 128]⟩
abbrev S32x384 : Shape := ⟨2, ![32, 384]⟩
abbrev S384x128 : Shape := ⟨2, ![384, 128]⟩
abbrev S1x384 : Shape := ⟨2, ![1, 384]⟩
abbrev S384 : Shape := ⟨1, ![384]⟩
abbrev S1024x4x16x768 : Shape := ⟨4, ![1024, 4, 16, 768]⟩

abbrev nBuf : Table → Nat
  | .hbm => 20
  | .local .tc .vmem => 9
  | .local .scVector .vmem => 3
  | _ => 0

abbrev bufTy : (tb : Table) → Fin (nBuf tb) → BufTy
  | .hbm, ⟨0, _⟩ => ⟨S1024x768, .f32⟩
  | .hbm, ⟨1, _⟩ => ⟨S8192x768, .f32⟩
  | .hbm, ⟨2, _⟩ => ⟨S8192x16x768, .f32⟩
  | .hbm, ⟨3, _⟩ => ⟨S8x1024, .i32⟩
  | .hbm, ⟨4, _⟩ => ⟨S786432x128, .f32⟩
  | .hbm, ⟨5, _⟩ => ⟨S1024x8, .i32⟩
  | .hbm, ⟨6, _⟩ => ⟨S8192, .i32⟩
  | .hbm, ⟨7, _⟩ => ⟨S8192x1, .i32⟩
  | .hbm, ⟨8, _⟩ => ⟨S_, .i32⟩
  | .hbm, ⟨9, _⟩ => ⟨S8192x1, .i32⟩
  | .hbm, ⟨10, _⟩ => ⟨S8192x1, .i32⟩
  | .hbm, ⟨11, _⟩ => ⟨S48, .i32⟩
  | .hbm, ⟨12, _⟩ => ⟨S1x48, .i32⟩
  | .hbm, ⟨13, _⟩ => ⟨S8192x48, .i32⟩
  | .hbm, ⟨14, _⟩ => ⟨S8192x48, .i32⟩
  | .hbm, ⟨15, _⟩ => ⟨S8192x48, .i32⟩
  | .hbm, ⟨16, _⟩ => ⟨S393216, .i32⟩
  | .hbm, ⟨17, _⟩ => ⟨S1024x384, .i32⟩
  | .hbm, ⟨18, _⟩ => ⟨S393216x128, .f32⟩
  | .hbm, ⟨19, _⟩ => ⟨S1024x4x16x768, .f32⟩
  | .local .tc .vmem, ⟨0, _⟩ => ⟨S1024x768, .f32⟩
  | .local .tc .vmem, ⟨1, _⟩ => ⟨S512x768, .f32⟩
  | .local .tc .vmem, ⟨2, _⟩ => ⟨S512x768, .f32⟩
  | .local .tc .vmem, ⟨3, _⟩ => ⟨S8x1024, .i32⟩
  | .local .tc .vmem, ⟨4, _⟩ => ⟨S1024x768, .bf16⟩
  | .local .tc .vmem, ⟨5, _⟩ => ⟨S1024x768, .bf16⟩
  | .local .tc .vmem, ⟨6, _⟩ => ⟨S1024x768, .bf16⟩
  | .local .tc .vmem, ⟨7, _⟩ => ⟨S16x8x1024, .f32⟩
  | .local .tc .vmem, ⟨8, _⟩ => ⟨S16x8x1024, .i32⟩
  | .local .scVector .vmem, ⟨0, _⟩ => ⟨S32x384, .i32⟩
  | .local .scVector .vmem, ⟨1, _⟩ => ⟨S384x128, .f32⟩
  | .local .scVector .vmem, ⟨2, _⟩ => ⟨S384x128, .f32⟩
  | _, _ => ⟨S1024x768, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => true
  | ⟨1, _⟩ => true
  | ⟨2, _⟩ => true
  | ⟨3, _⟩ => true
  | ⟨4, _⟩ => false
  | ⟨5, _⟩ => false
  | ⟨6, _⟩ => false
  | ⟨7, _⟩ => false
  | ⟨8, _⟩ => false
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v1_scv : Ref sig .scVector := ⟨.hbm, 4, rfl⟩
abbrev main_v13_scv : Ref sig .scVector := ⟨.hbm, 17, rfl⟩
abbrev main_v14_scv : Ref sig .scVector := ⟨.hbm, 18, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc0_sem0_0 : DmaSem sig := 0
abbrev cc0_sem1_0 : DmaSem sig := 1
abbrev cc0_sem1_1 : DmaSem sig := 2
abbrev cc0_sem2_0 : DmaSem sig := 3
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![16], ![false]⟩

def k0_off1 (i : grid0.Coords) : Fin 3 → Nat :=
  let arg0 : BitVec 32 := BitVec.ofNat 32 (i 0).val
  let v87 : Index := Scalar.indexCast arg0
  let c0_32 : Index := 0#32
  let c0_33 : Index := 0#32
  ![v87.toNat, 0, 0]
def k0_cond2 (i : grid0.Coords) : BitVec 1 :=
  let arg0 : BitVec 32 := BitVec.ofNat 32 (i 0).val
  let c15_i32 : BitVec 32 := 15#32
  let v97 : BitVec 1 := Scalar.cmpi .eq arg0 c15_i32
  let v98 : BitVec 32 := Scalar.extui v97
  let c0_i32_36 : BitVec 32 := 0#32
  let v99 : BitVec 1 := Scalar.cmpi .ne v98 c0_i32_36
  v99

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x1024 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨2, ![2, 16], ![false, false]⟩

def k1_off1 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v3 : BitVec 32 := Scalar.muli v1 c32_i32
  let c0_i32_354_r0 : BitVec 32 := 0#32
  ![v3.toNat, 0]
def k1_off2 (i : grid1.Coords) (c0_i32_10 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c12288_i32 : BitVec 32 := 12288#32
  let v2 : BitVec 32 := Scalar.muli v1 c12288_i32
  let v13 : BitVec 32 := Scalar.addi v2 c0_i32_10
  let c0_i32_11 : BitVec 32 := 0#32
  ![v13.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1024x768 : Shape := ⟨2, ![1024, 768]⟩
abbrev S8192x768 : Shape := ⟨2, ![8192, 768]⟩
abbrev S8192x16x768 : Shape := ⟨3, ![8192, 16, 768]⟩
abbrev S1024x1x768 : Shape := ⟨3, ![1024, 1, 768]⟩
abbrev S_ : Shape := ⟨0, ![]⟩
abbrev S1024x1 : Shape := ⟨2, ![1024, 1]⟩
abbrev S1024x1x1 : Shape := ⟨3, ![1024, 1, 1]⟩
abbrev S8192 : Shape := ⟨1, ![8192]⟩
abbrev S8192x1 : Shape := ⟨2, ![8192, 1]⟩
abbrev S1x8192x768 : Shape := ⟨3, ![1, 8192, 768]⟩
abbrev S1024x8192x768 : Shape := ⟨3, ![1024, 8192, 768]⟩
abbrev S1024x8192 : Shape := ⟨2, ![1024, 8192]⟩
abbrev S1024x4 : Shape := ⟨2, ![1024, 4]⟩
abbrev S1024x4x1 : Shape := ⟨3, ![1024, 4, 1]⟩
abbrev S1 : Shape := ⟨1, ![1]⟩
abbrev S1x1x1 : Shape := ⟨3, ![1, 1, 1]⟩
abbrev S1024x4x16x768 : Shape := ⟨4, ![1024, 4, 16, 768]⟩

abbrev nBuf : Space → Nat
  | .hbm => 56
  | .vmem => 0
  | .smem => 0
  | _ => 0

abbrev bufTy : (tb : Table) → Fin (tcTables nBuf tb) → BufTy
  | .hbm, ⟨0, _⟩ => ⟨S1024x768, .f32⟩
  | .hbm, ⟨1, _⟩ => ⟨S8192x768, .f32⟩
  | .hbm, ⟨2, _⟩ => ⟨S8192x16x768, .f32⟩
  | .hbm, ⟨3, _⟩ => ⟨S1024x1x768, .f32⟩
  | .hbm, ⟨4, _⟩ => ⟨S1024x1x768, .f32⟩
  | .hbm, ⟨5, _⟩ => ⟨S_, .f32⟩
  | .hbm, ⟨6, _⟩ => ⟨S1024x1, .f32⟩
  | .hbm, ⟨7, _⟩ => ⟨S1024x1x1, .f32⟩
  | .hbm, ⟨8, _⟩ => ⟨S_, .f32⟩
  | .hbm, ⟨9, _⟩ => ⟨S1024x1x1, .f32⟩
  | .hbm, ⟨10, _⟩ => ⟨S1024x1x1, .f32⟩
  | .hbm, ⟨11, _⟩ => ⟨S1024x1x1, .f32⟩
  | .hbm, ⟨12, _⟩ => ⟨S1024x1x768, .f32⟩
  | .hbm, ⟨13, _⟩ => ⟨S1024x1x768, .f32⟩
  | .hbm, ⟨14, _⟩ => ⟨S8192x768, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x768, .f32⟩
  | .hbm, ⟨23, _⟩ => ⟨S8192x768, .f32⟩
  | .hbm, ⟨24, _⟩ => ⟨S1x8192x768, .f32⟩
  | .hbm, ⟨25, _⟩ => ⟨S1024x8192x768, .f32⟩
  | .hbm, ⟨26, _⟩ => ⟨S1024x8192x768, .f32⟩
  | .hbm, ⟨27, _⟩ => ⟨S1024x8192x768, .f32⟩
  | .hbm, ⟨28, _⟩ => ⟨S_, .f32⟩
  | .hbm, ⟨29, _⟩ => ⟨S1024x8192, .f32⟩
  | .hbm, ⟨30, _⟩ => ⟨S1024x8192, .f32⟩
  | .hbm, ⟨31, _⟩ => ⟨S1024x4, .f32⟩
  | .hbm, ⟨32, _⟩ => ⟨S1024x4, .i32⟩
  | .hbm, ⟨33, _⟩ => ⟨S_, .i32⟩
  | .hbm, ⟨34, _⟩ => ⟨S1024x4, .i32⟩
  | .hbm, ⟨35, _⟩ => ⟨S1024x4, .i1⟩
  | .hbm, ⟨36, _⟩ => ⟨S_, .i32⟩
  | .hbm, ⟨37, _⟩ => ⟨S1024x4, .i32⟩
  | .hbm, ⟨38, _⟩ => ⟨S1024x4, .i32⟩
  | .hbm, ⟨39, _⟩ => ⟨S1024x4, .i32⟩
  | .hbm, ⟨40, _⟩ => ⟨S1024x4x1, .i32⟩
  | .hbm, ⟨41, _⟩ => ⟨S1, .i32⟩
  | .hbm, ⟨42, _⟩ => ⟨S_, .i32⟩
  | .hbm, ⟨43, _⟩ => ⟨S1024x4x1, .i32⟩
  | .hbm, ⟨44, _⟩ => ⟨S1024x4x1, .i1⟩
  | .hbm, ⟨45, _⟩ => ⟨S1x1x1, .i32⟩
  | .hbm, ⟨46, _⟩ => ⟨S1024x4x1, .i32⟩
  | .hbm, ⟨47, _⟩ => ⟨S1024x4x1, .i1⟩
  | .hbm, ⟨48, _⟩ => ⟨S1024x4x1, .i1⟩
  | .hbm, ⟨49, _⟩ => ⟨S_, .i1⟩
  | .hbm, ⟨50, _⟩ => ⟨S1024x4, .i1⟩
  | .hbm, ⟨51, _⟩ => ⟨S1024x4x16x768, .f32⟩
  | .hbm, ⟨52, _⟩ => ⟨S1024x4x16x768, .i1⟩
  | .hbm, ⟨53, _⟩ => ⟨S_, .f32⟩
  | .hbm, ⟨54, _⟩ => ⟨S1024x4x16x768, .f32⟩
  | .hbm, ⟨55, _⟩ => ⟨S1024x4x16x768, .f32⟩
  | _, _ => ⟨S1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_values : Ref sig .tc := ⟨.hbm, 31, rfl⟩
abbrev main_indices : Ref sig .tc := ⟨.hbm, 32, rfl⟩
abbrev main_call0_c : Ref sig .tc := ⟨.hbm, 33, rfl⟩
abbrev main_call0_v0 : Ref sig .tc := ⟨.hbm, 34, rfl⟩
abbrev main_call0_v1 : Ref sig .tc := ⟨.hbm, 35, rfl⟩
abbrev main_call0_c_0 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_call0_v5 : Ref sig .tc := ⟨.hbm, 40, rfl⟩
abbrev main_call0_c_1 : Ref sig .tc := ⟨.hbm, 41, rfl⟩
abbrev main_call0_c_2 : Ref sig .tc := ⟨.hbm, 42, rfl⟩
abbrev main_call0_v6 : Ref sig .tc := ⟨.hbm, 43, rfl⟩
abbrev main_call0_v7 : Ref sig .tc := ⟨.hbm, 44, rfl⟩
abbrev main_call0_v8 : Ref sig .tc := ⟨.hbm, 45, rfl⟩
abbrev main_call0_v9 : Ref sig .tc := ⟨.hbm, 46, rfl⟩
abbrev main_call0_v10 : Ref sig .tc := ⟨.hbm, 47, rfl⟩
abbrev main_call0_v11 : Ref sig .tc := ⟨.hbm, 48, rfl⟩
abbrev main_call0_c_3 : Ref sig .tc := ⟨.hbm, 49, rfl⟩
abbrev main_call0_v12 : Ref sig .tc := ⟨.hbm, 50, rfl⟩
abbrev main_call0_v13 : Ref sig .tc := ⟨.hbm, 51, rfl⟩
abbrev main_call0_v14 : Ref sig .tc := ⟨.hbm, 52, rfl⟩
abbrev main_call0_cst : Ref sig .tc := ⟨.hbm, 53, rfl⟩
abbrev main_call0_v15 : Ref sig .tc := ⟨.hbm, 54, rfl⟩
abbrev main_v23 : Ref sig .tc := ⟨.hbm, 55, rfl⟩

abbrev nD : Nat := 1
abbrev τ : Topo := Topo.v7x

variable {F : FTy → Type} [FloatOps F]
-- ==== Proof.IdealRun.Setup.lean ====
/-
  The set-up every later module of this program's run shares: the program as the SparseCore launch sees it, the algebra of its
  ghost state (the launch's handshakes, the TensorCore pipeline's rounds, the copies' counters), the buffers' places, and the value
  the gather leaves: row `p` of the result is the table's row named by word `p` of the index lists.
-/
module

public import proofs.«01_k».proof.Defs
public import proofs.«01_k».proof.Proof.Gen.KernelIdeal
public import proofs.«01_k».proof.Proof.Gen.KernelIdeal.Launch
public import Idealize.ShloMosaic.Lib.SparseCore.Quiescent
public import Idealize.ShloMosaic.Lib.SparseCore.Ops
public import Idealize.ShloMosaic.Lib.SparseCore.Stream
public import Idealize.ShloMosaic.Lib.SparseCore.FromWhole
public import Idealize.ShloMosaic.Lib.StableHlo.Run
public import Idealize.ShloMosaic.Lib.Pipeline.Kit
public import Idealize.ShloMosaic.Lib.Pipeline.Regions
public import Idealize.ShloMosaic.Lib.ValueLayout
public import Idealize.ShloMosaic.Lib.Tactic

@[expose] public section

noncomputable section

namespace Cert.KernelIdeal.Run

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

/-- The label signature of the pipeline's program. -/
abbrev ΛP (F : FTy → Type) [FloatOps F] : Labels := Pipeline.Sig Λ₀ (Fin 1) fun p => (pcfgs (F := F) p).Adm
abbrev KS (F : FTy → Type) [FloatOps F] : SparseCore.Cfg τ sig (ΛP F) 1 := sc (F := F)
abbrev DP (F : FTy → Type) [FloatOps F] : Defs nD τ sig (Elt F) (ΛP F) := Pipeline.defs pcfgs defs₀
abbrev 𝒱₀ : Variants := Variants.none
abbrev 𝒱 : Variants := 𝒱₀.lift
abbrev v₀ : 𝒱.V := Sum.inl none

theorem scFacts : (KS F).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state's algebra -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL

/-! ## Places and threads -/

variable (d : Dev nD) (L : grid1.Coords)

/-- The subcore at grid coordinates `L`. -/
abbrev thrV : Thread nD τ := V d ((L 0).castLE hcore1) ((L 1).castLE hsub1)

abbrev tabLoc : Loc nD τ sig := (T d : Thread nD τ).loc main_v1
abbrev idxLoc : Loc nD τ sig := (T d : Thread nD τ).loc main_v13
abbrev outLoc : Loc nD τ sig := (T d : Thread nD τ).loc main_v14

/-! ## What the gather leaves -/

/-- The index list's word for row `p` of the result: word `p mod 384` of list `p / 384`. -/
def wordOf (ix : S1024x384.Idx → BitVec 32) (p : Fin 393216) : BitVec 32 :=
  ix (ix2 ⟨p.val / 384, by omega⟩ ⟨p.val % 384, by omega⟩)

/-- Row `p` of the result: the table's row that the index list names (a word past the table's end is taken modulo its rows; the
    launch shows that there is none). -/
def gathered (tab : S786432x128.Idx → F .f32) (ix : S1024x384.Idx → BitVec 32) : S393216x128.Idx → F .f32 :=
  fun p => tab (ix2 ⟨(wordOf ix (p 0)).toNat % 786432, Nat.mod_lt _ (by decide)⟩ (p 1))

/-- Rows `384 n` to `384 n + 383` of the result. -/
def chunkSet (n : ℕ) : Finset S393216x128.Idx := Finset.univ.filter fun p => (p 0).val / 384 = n

/-- The chunk number of chunk `r` of the task at `L`. -/
def chunkNo (r : ℕ) : ℕ := 64 * (L 1).val + 32 * (L 0).val + r

end Cert.KernelIdeal.Run
end
-- ==== Proof.IdealRun.Prog.lean ====
/-
  The gather task's text as a loop.

  The printed task unrolls its 32 chunks and is cut into windows by statement count. Here it is written as a prologue,
  fifteen equal rounds of two chunks each, and an epilogue; the printed text is that loop by definitional unfolding.
  Each round, with `k` counted from zero: the copy out of chunk `2k` is waited for and the gather of chunk `2k + 2` issued into the
  first buffer; the gather of chunk `2k + 1` is waited for and its copy out issued; that copy out is waited for and the gather of
  chunk `2k + 3` issued into the second buffer; the gather of chunk `2k + 2` is waited for and its copy out issued.
-/
module

public import proofs.«01_k».proof.Proof.Gen.KernelIdeal

@[expose] public section

noncomputable section

namespace Cert.KernelIdeal.Run

open Cert.KernelIdeal Cert.KernelIdeal.Gen
open Idealize.ShloMosaic Idealize.SL.Sem

variable {F : FTy → Type} [FloatOps F]

/-- The rectangle of row `r` of a task's index lists. -/
theorem lst_inb (r : Fin 32) : ∀ a, (![r.val, 0] : Fin 2 → Nat) a + S1x384.size a ≤ S32x384.size a := by
  have h := r.isLt
  intro a
  match a with
  | 0 => show r.val + 1 ≤ 32; omega
  | 1 => show 0 + 384 ≤ 384; omega

section
variable (i : grid1.Coords) (arg2 : Memref sig .scVector .hbm S786432x128 .f32) (harg2 : arg2.IsWhole) (arg3 : Memref sig .scVector .hbm S1024x384 .i32) (harg3 : arg3.IsWhole) (arg4 : Memref sig .scVector .hbm S393216x128 .f32) (harg4 : arg4.IsWhole)
  (arg5 : Memref sig .scVector .vmem S32x384 .i32) (harg5 : arg5.IsWhole) (arg6 : Memref sig .scVector .vmem S384x128 .f32) (harg6 : arg6.IsWhole) (arg7 : Memref sig .scVector .vmem S384x128 .f32) (harg7 : arg7.IsWhole)

/-- The table, as the task names it. -/
abbrev tabM : Memref sig .scVector .hbm S786432x128 .f32 :=
  arg2.slice (Rect.unit (s := S786432x128) ![0, 0] S786432x128.size inb_S786432x128_S786432x128_0_0) (fun _ => rfl)
/-- The task's index lists in the array of all of them. -/
abbrev idxM : Memref sig .scVector .hbm S32x384 .i32 :=
  arg3.slice (Rect.unit (s := S1024x384) (k1_off1 i) S32x384.size (k1_off1_inb i)) (fun _ => rfl)
/-- The index list of chunk `r`. -/
abbrev lstM (r : Fin 32) : Memref sig .scVector .vmem S384 .i32 :=
  (arg5.slice (Rect.unit (s := S32x384) ![r.val, 0] S1x384.size (lst_inb r)) (fun _ => rfl)).squeeze S384 squeezes_S1x384_S384
/-- Chunk `r` of the task's rows of the result. -/
abbrev outM (r : Fin 32) : Memref sig .scVector .hbm S384x128 .f32 :=
  arg4.slice (Rect.unit (s := S393216x128) (k1_off2 i (BitVec.ofNat 32 (384 * r.val))) S384x128.size (k1_off2_inb i r)) (fun _ => rfl)

/-- A program of the task's subcore. -/
abbrev TP (F : FTy → Type) (i : grid1.Coords) : Type 1 := Prog (TpuEff nD τ sig (Elt F) Λ₀ (.scVector ((i 0).castLE hcore1) ((i 1).castLE hsub1))) PUnit

/-- Chunk `r`'s gather, issued into `buf` on `sem`. -/
abbrev gatO (buf : Memref sig .scVector .vmem S384x128 .f32) (sem : DmaSems sig S_) (r : Fin 32) : TP F i :=
  SparseCore.enqueueIndirectGather rfl (tabM arg2) buf gathers_S786432x128_S384x128 (lstM arg5 r) rfl sem.sem (View.wordExact_bits rfl) rfl (Or.inl rfl)
/-- The wait for chunk `r`'s gather. -/
abbrev gatW (buf : Memref sig .scVector .vmem S384x128 .f32) (hbuf : buf.IsWhole) (sem : DmaSems sig S_) : TP F i :=
  SparseCore.waitIndirectGather sem.sem (tabM arg2) buf (View.wordExact_bits rfl) hbuf.wordExact
/-- Chunk `r`'s copy out, issued from `buf` on `sem`. -/
abbrev outO (buf : Memref sig .scVector .vmem S384x128 .f32) (hbuf : buf.IsWhole) (sem : DmaSems sig S_) (r : Fin 32) : TP F i :=
  Prog.lift (.enqueueDma buf (.here (outM i arg4 r)) (.dma sem.sem) hbuf.wordExact (View.wordExact_bits rfl) ⟨Or.inl rfl, trivial⟩)
/-- The wait for chunk `r`'s copy out. -/
abbrev outW (buf : Memref sig .scVector .vmem S384x128 .f32) (hbuf : buf.IsWhole) (sem : DmaSems sig S_) (r : Fin 32) : TP F i :=
  Prog.lift (.waitDma2 sem.sem buf (outM i arg4 r) hbuf.wordExact (View.wordExact_bits rfl))

variable (arg8 arg9 arg10 arg11 r0 : DmaSems sig S_)

/-- Round `k`: chunks `2k + 1` and `2k + 2` leave, chunks `2k + 2` and `2k + 3` are fetched. -/
def round (k : Fin 15) : TP F i := do
  outW i arg4 arg6 harg6 arg10 ⟨2 * k.val, by omega⟩
  gatO i arg2 arg5 arg6 arg8 ⟨2 * k.val + 2, by omega⟩
  gatW i arg2 arg7 harg7 arg9
  outO i arg4 arg7 harg7 arg11 ⟨2 * k.val + 1, by omega⟩
  outW i arg4 arg7 harg7 arg11 ⟨2 * k.val + 1, by omega⟩
  gatO i arg2 arg5 arg7 arg9 ⟨2 * k.val + 3, by omega⟩
  gatW i arg2 arg6 harg6 arg8
  outO i arg4 arg6 harg6 arg10 ⟨2 * k.val + 2, by omega⟩

/-- The last `n` rounds of the fifteen. -/
def rounds : (n : Nat) → n ≤ 15 → TP F i
  | 0, _ => pure ⟨⟩
  | n + 1, h => do
    round i arg2 arg4 arg5 arg6 harg6 arg7 harg7 arg8 arg9 arg10 arg11 ⟨14 - n, by omega⟩
    rounds n (by omega)

/-- The task: its index lists brought in, the first two gathers issued, the first copy out issued; fifteen rounds; the last chunk's
    copy out and the two last waits. -/
def gatherLoop : TP F i := do
  Prog.lift (.enqueueDma (idxM i arg3) (.here arg5) (.dma r0.sem) (View.wordExact_bits rfl) harg5.wordExact ⟨Or.inl rfl, trivial⟩)
  Prog.lift (.waitDma2 r0.sem (idxM i arg3) arg5 (View.wordExact_bits rfl) harg5.wordExact)
  gatO i arg2 arg5 arg6 arg8 0
  gatO i arg2 arg5 arg7 arg9 1
  gatW i arg2 arg6 harg6 arg8
  outO i arg4 arg6 harg6 arg10 0
  rounds i arg2 arg4 arg5 arg6 harg6 arg7 harg7 arg8 arg9 arg10 arg11 15 le_rfl
  gatW i arg2 arg7 harg7 arg9
  outO i arg4 arg7 harg7 arg11 31
  outW i arg4 arg6 harg6 arg10 30
  outW i arg4 arg7 harg7 arg11 31

set_option maxRecDepth 100000 in
/-- The printed task is that loop. -/
theorem gatherLoop_eq : cc1_gather_kernel (F := F) i arg2 harg2 arg3 harg3 arg4 harg4 arg5 harg5 arg6 harg6 arg7 harg7 arg8 arg9 arg10 arg11 r0
    = gatherLoop i arg2 arg3 arg4 arg5 harg5 arg6 harg6 arg7 harg7 arg8 arg9 arg10 arg11 r0 := rfl
end

end Cert.KernelIdeal.Run
end
-- ==== Proof.IdealRun.Geometry.lean ====
/-
  Which elements the task's views name: chunk `r` of the task's rows of the result is rows `384 n` to `384 n + 383` for `n` its
  chunk number; the index list of chunk `r`, read out of the task's copy of its lists, is list `n` of all of them; and what the
  gather of chunk `r` brings is the specified value at those rows.
-/
module

public import proofs.«01_k».proof.Proof.IdealRun.Setup
public import proofs.«01_k».proof.Proof.IdealRun.Prog

@[expose] public section

noncomputable section

namespace Cert.KernelIdeal.Run

open Cert.KernelIdeal Cert.KernelIdeal.Gen
open Idealize.ShloMosaic
open Idealize.ShloMosaic.SparseCore (S V T)
open Idealize.SL.Sem
open Idealize.ShloMosaic.ValueIdx

variable {F : FTy → Type} [FloatOps F]
variable (L : grid1.Coords)

local notation "tV" => (Memref.whole main_v1_scv : Memref sig Kind.scVector Space.hbm S786432x128 EltTy.f32)
local notation "iV" => (Memref.whole main_v13_scv : Memref sig Kind.scVector Space.hbm S1024x384 EltTy.i32)
local notation "oV" => (Memref.whole main_v14_scv : Memref sig Kind.scVector Space.hbm S393216x128 EltTy.f32)
local notation "lV" => (Memref.whole cc1_scratch0 : Memref sig Kind.scVector Space.vmem S32x384 EltTy.i32)

theorem L0_lt : (L 0).val < 2 := (L 0).isLt
theorem L1_lt : (L 1).val < 16 := (L 1).isLt

/-! ## Chunk `r` of the result -/

theorem outM_emb0 (r : Fin 32) (x : S384x128.Idx) : ((outM L oV r).view.emb x 0).val = 384 * chunkNo L r.val + (x 0).val := by
  show k1_off2 L (BitVec.ofNat 32 (384 * r.val)) 0 + 1 * (x 0).val = _
  rw [k1_off2_eq]
  show 24576 * (L 1).val + 12288 * (L 0).val + 384 * r.val + 1 * (x 0).val = _
  unfold chunkNo; omega

theorem outM_emb1 (r : Fin 32) (x : S384x128.Idx) : ((outM L oV r).view.emb x 1).val = (x 1).val := by
  show k1_off2 L (BitVec.ofNat 32 (384 * r.val)) 1 + 1 * (x 1).val = _
  rw [k1_off2_eq]
  show 0 + 1 * (x 1).val = _
  omega

theorem outM_set (r : Fin 32) : (outM L oV r).view.set = chunkSet (chunkNo L r.val) := by
  ext p
  constructor
  · intro h
    obtain ⟨x, -, rfl⟩ := Finset.mem_map.mp h
    refine Finset.mem_filter.mpr ⟨Finset.mem_univ _, ?_⟩
    have h0 : (x 0).val < 384 := (x 0).isLt
    rw [outM_emb0 L r x]; omega
  · intro h
    have hp : (p 0).val / 384 = chunkNo L r.val := (Finset.mem_filter.mp h).2
    refine Finset.mem_map.mpr ⟨ix2 ⟨(p 0).val % 384, Nat.mod_lt _ (by decide)⟩ (p 1), Finset.mem_univ _, ?_⟩
    funext a
    match a with
    | 0 => refine Fin.ext ((outM_emb0 L r _).trans ?_); show 384 * _ + (p 0).val % 384 = _; omega
    | 1 => exact Fin.ext (outM_emb1 L r _)

/-! ## The values -/

variable (tab : S786432x128.Idx → F .f32) (ix : S1024x384.Idx → BitVec 32)

omit [FloatOps F] in
theorem wordOf_eq (p : Fin 393216) (n k : ℕ) (hn : n < 1024) (hk : k < 384) (e : p.val = 384 * n + k) : wordOf ix p = ix (ix2 ⟨n, hn⟩ ⟨k, hk⟩) := by
  unfold wordOf
  congr 2 <;> apply Fin.ext <;> simp only [e] <;> omega

/-- What chunk `r` of the task's rows is to hold. -/
def chunkPay (r : Fin 32) : S384x128.Idx → F .f32 := fun x => gathered tab ix ((outM L oV r).view.emb x)

/-- Chunk `r` written with what it is to hold is the specified value on its rows. -/
theorem outM_write (r : Fin 32) (fd : S393216x128.Idx → F .f32) (p : S393216x128.Idx) (hp : p ∈ chunkSet (chunkNo L r.val)) :
    (outM L oV r).view.write (Elt F) fd (chunkPay L tab ix r) Finset.univ p = gathered tab ix p := by
  rw [← outM_set L r] at hp
  obtain ⟨x, -, rfl⟩ := Finset.mem_map.mp hp
  exact View.write_emb_of_mem (v := (outM L oV r).view) (Val := Elt F) fd _ (Finset.mem_univ x)

/-- The task's copy of its index lists. -/
def listsOf (f0 : S32x384.Idx → BitVec 32) : S32x384.Idx → BitVec 32 :=
  (lV).view.write (Elt F) f0 ((idxM L iV).view.read (Elt F) ix) Finset.univ

theorem idxM_emb (x : S32x384.Idx) : (idxM L iV).view.emb x = ix2 ⟨64 * (L 1).val + 32 * (L 0).val + (x 0).val, by
    have := L0_lt L; have := L1_lt L; have h : (x 0).val < 32 := (x 0).isLt; omega⟩ (x 1) := by
  funext a
  match a with
  | 0 =>
    refine Fin.ext ?_
    show k1_off1 L 0 + 1 * (x 0).val = 64 * (L 1).val + 32 * (L 0).val + (x 0).val
    rw [k1_off1_eq]; show 64 * (L 1).val + 32 * (L 0).val + 1 * (x 0).val = _; omega
  | 1 =>
    refine Fin.ext ?_
    show k1_off1 L 1 + 1 * (x 1).val = (x 1).val
    rw [k1_off1_eq]; show 0 + 1 * (x 1).val = _; omega

theorem listsOf_apply (f0 : S32x384.Idx → BitVec 32) (x : S32x384.Idx) :
    listsOf (F := F) L ix f0 x = ix (ix2 ⟨64 * (L 1).val + 32 * (L 0).val + (x 0).val, by
      have := L0_lt L; have := L1_lt L; have h : (x 0).val < 32 := (x 0).isLt; omega⟩ (x 1)) := by
  unfold listsOf
  rw [View.write_whole_univ]
  exact congrArg ix (idxM_emb L x)

theorem lstM_emb (r : Fin 32) (x : S384.Idx) : (lstM lV r).view.emb x = ix2 r (x 0) := by
  have e : Shape.reshapeEquiv (squeezes_S1x384_S384).numel_eq x = (ix2 0 (x 0) : S1x384.Idx) :=
    Shape.reshapeEquiv_eq_of_rowMajor _ (by
      rw [Shape.rowMajor_val_one, Shape.rowMajor_val_two]; show 0 * 384 + (x 0).val = (x 0).val; omega)
  show (Rect.unit (s := S32x384) ![r.val, 0] S1x384.size (lst_inb r)).emb (Shape.reshapeEquiv (squeezes_S1x384_S384).numel_eq x) = _
  rw [e]
  funext a
  match a with
  | 0 => refine Fin.ext ?_; show r.val + 1 * 0 = r.val; omega
  | 1 => refine Fin.ext ?_; show 0 + 1 * (x 0).val = (x 0).val; omega

/-- The words of chunk `r`'s list. -/
theorem lst_read (r : Fin 32) (f0 : S32x384.Idx → BitVec 32) (x : S384.Idx) :
    (lstM lV r).view.read (Elt F) (listsOf (F := F) L ix f0) x = ix (ix2 ⟨chunkNo L r.val, by
      have := L0_lt L; have := L1_lt L; have := r.isLt; unfold chunkNo; omega⟩ (x 0)) :=
  (congrArg (listsOf (F := F) L ix f0) (lstM_emb r x)).trans (listsOf_apply L ix f0 (ix2 r (x 0)))

/-- Every word of every list in range: the gather of chunk `r` may be issued. -/
theorem lst_inRange (hix : ∀ j, (ix j).toNat < 786432) (r : Fin 32) (f0 : S32x384.Idx → BitVec 32) :
    ∀ x, ((lstM lV r).view.read (Elt F) (listsOf (F := F) L ix f0) x).toNat < S786432x128.size (gathers_S786432x128_S384x128).axis := by
  intro x; exact lt_of_eq_of_lt (congrArg BitVec.toNat (lst_read L ix r f0 x)) (hix _)

/-- What the gather of chunk `r` brings. -/
theorem gather_pay (hix : ∀ j, (ix j).toNat < 786432) (r : Fin 32) (f0 : S32x384.Idx → BitVec 32)
    (hn : S384.numel = S384x128.size (gathers_S786432x128_S384x128).axis')
    (hin : ∀ x, ((lstM lV r).view.read (Elt F) (listsOf (F := F) L ix f0) x).toNat < S786432x128.size (gathers_S786432x128_S384x128).axis) :
    SparseCore.gatherPayload gathers_S786432x128_S384x128 ((tabM tV).view.read (Elt F) tab)
        (SparseCore.rows ((lstM lV r).view.read (Elt F) (listsOf (F := F) L ix f0)) hn hin)
      = chunkPay L tab ix r := by
  funext x
  have h0 : (x 0).val < 384 := (x 0).isLt
  have hc : chunkNo L r.val < 1024 := by have := L0_lt L; have := L1_lt L; have := r.isLt; unfold chunkNo; omega
  show tab ((tabM tV).view.emb _) = tab _
  congr 1
  funext a
  match a with
  | 0 =>
    refine Fin.ext ?_
    show 0 + 1 * ((lstM lV r).view.read (Elt F) (listsOf (F := F) L ix f0) _).toNat = (wordOf ix ((outM L oV r).view.emb x 0)).toNat % 786432
    have ej : ∀ y : S384.Idx, y = S384.rowMajor.symm ((x 0).cast hn.symm) → y 0 = x 0 := by
      rintro y rfl
      apply Fin.ext
      rw [← Shape.rowMajor_val_one (d := ![384])]
      exact congrArg Fin.val (Equiv.apply_symm_apply S384.rowMajor ((x 0).cast hn.symm))
    rw [Nat.zero_add, Nat.one_mul]
    refine (congrArg BitVec.toNat ((lst_read L ix r f0 _).trans ?_)).trans (Nat.mod_eq_of_lt (hix _)).symm
    refine Eq.trans ?_ (wordOf_eq ix _ (chunkNo L r.val) (x 0).val hc h0 (outM_emb0 L r x)).symm
    exact congrArg (fun z => ix (ix2 (⟨chunkNo L r.val, hc⟩ : Fin 1024) z)) (ej _ rfl)
  | 1 =>
    refine Fin.ext ?_
    show 0 + 1 * (x 1).val = ((outM L oV r).view.emb x 1).val
    rw [outM_emb1]; omega

end Cert.KernelIdeal.Run
end
-- ==== Proof.IdealRun.Steps.lean ====
/-
  One rule for each kind of step the gather task takes, at any chunk, either staging buffer and any semaphore: issuing the gather
  of a chunk, waiting for it, issuing the copy of a staged chunk out to the result, waiting for that. What a gather in flight will
  deliver is a staging buffer holding the chunk's specified rows; what a copy out will deliver is those rows of the result.
-/
module

public import proofs.«01_k».proof.Proof.IdealRun.Geometry

@[expose] public section

noncomputable section

namespace Cert.KernelIdeal.Run

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig (HIx 1) (Elt F) ℕ UU ℕ
local notation "tV" => (Memref.whole main_v1_scv : Memref sig Kind.scVector Space.hbm S786432x128 EltTy.f32)
local notation "iV" => (Memref.whole main_v13_scv : Memref sig Kind.scVector Space.hbm S1024x384 EltTy.i32)
local notation "oV" => (Memref.whole main_v14_scv : Memref sig Kind.scVector Space.hbm S393216x128 EltTy.f32)
local notation "lV" => (Memref.whole cc1_scratch0 : Memref sig Kind.scVector Space.vmem S32x384 EltTy.i32)

variable (d : Dev nD) (L : grid1.Coords)
variable (tab : S786432x128.Idx → F .f32) (ix : S1024x384.Idx → BitVec 32) (f0 : S32x384.Idx → BitVec 32)

/-- The table at share `q`, and the task's lists at share `q`. -/
abbrev tabPts (q : PosShare TreeShare) : sProp 𝕄 := (tV).view.loc (thrV d L) ↦{q} (tab : Buf (Elt F) ((tV).view.loc (thrV d L)))
abbrev lstPts (q : PosShare TreeShare) : sProp 𝕄 :=
  (lV).view.loc (thrV d L) ↦{q} (listsOf (F := F) L ix f0 : Buf (Elt F) ((lV).view.loc (thrV d L)))

variable (buf : Memref sig .scVector .vmem S384x128 .f32) (hbuf : buf.IsWhole) (sem : DmaSems sig S_)

/-- A staging buffer at some contents. -/
abbrev bufPts : sProp 𝕄 := iprop(∃ f : Buf (Elt F) (buf.view.loc (thrV d L)), buf.view.loc (thrV d L) ↦{fullShare} f)
/-- A staging buffer holding chunk `r`. -/
abbrev stgPts (r : Fin 32) : sProp 𝕄 :=
  iprop(∃ f : Buf (Elt F) (buf.view.loc (thrV d L)), buf.view.loc (thrV d L) ↦{fullShare} (buf.view.write (Elt F) f (chunkPay L tab ix r) Finset.univ))
/-- Chunk `r` of the task's rows of the result, at `f`. -/
abbrev outPts (f : S393216x128.Idx → F .f32) (r : Fin 32) : sProp 𝕄 := outLoc d ↦[chunkSet (chunkNo L r.val)]{fullShare} (f : Buf (Elt F) (outLoc d))
/-- A semaphore of the task's at zero. -/
abbrev sem0 : sProp 𝕄 := semVal (thrV d L, SemLoc.dma sem.sem) 0

/-- The gather of chunk `r` into `buf` in flight. -/
def gatFl (q q' : PosShare TreeShare) (r : Fin 32) : sProp 𝕄 :=
  Transfers.Flight countersEmb (thrV d L) (.dma sem.sem) (default : HIx 1) buf.view.dmaCredit
    iprop(stgPts d L tab ix buf r ∗ tabPts d L tab q ∗ lstPts d L ix f0 q')
/-- The copy of chunk `r` out of `buf` in flight. -/
def outFl (r : Fin 32) : sProp 𝕄 :=
  Transfers.Flight countersEmb (thrV d L) (.dma sem.sem) (default : HIx 1) (outM L oV r).view.dmaCredit
    iprop(outPts d L (gathered tab ix) r ∗ bufPts (F := F) d L buf)

variable (O : CellTallies nD τ sig (HIx 1)) (W : Waits sig (HIx 1))

/-- What the task owes, with the waits it has recorded so far. -/
abbrev owing : sProp 𝕄 := iprop(∃ W', ⌜∀ p ∈ W', p ∈ W ∨ p.2 = none⌝ ∗ owes (thrV d L) O W')

variable (k : PUnit.{1} → TP F L)

theorem gatO_step (Q : PUnit.{1} → sProp 𝕄) (hix : ∀ j, (ix j).toNat < 786432)
    (hN : ∑ j, (buf.slice (S384x128.rowRect (gathers_S786432x128_S384x128).axis' j) (S384x128.stride_rowRect (gathers_S786432x128_S384x128).axis' j)).view.dmaCredit
      = buf.view.dmaCredit) (q q' : PosShare TreeShare) (r : Fin 32) :
    iprop(tabPts d L tab q ∗ bufPts (F := F) d L buf ∗ lstPts d L ix f0 q' ∗ sem0 d L sem)
      ⊢ iprop((gatFl d L tab ix f0 buf sem q q' r -∗ wp frame (wpE (defs₀ (F := F)) 𝒱₀ (thrV d L) none) Set.univ (k ⟨⟩) Q)
        -∗ wp frame (wpE (defs₀ (F := F)) 𝒱₀ (thrV d L) none) Set.univ (gatO L tV lV buf sem r >>= k) Q) := by
  iintro ⟨Ht, ⟨%fd, Hb⟩, Hl, Hs⟩ Hk
  iapply (SparseCore.wp_gatherFromWhole countersEmb 𝒱₀ (thrV d L) none (hg := gathers_S786432x128_S384x128) (default : HIx 1)
    buf.view.dmaCredit hN (by decide) (lst_inRange L ix hix r f0)) $$ [Ht Hb Hl Hs]
  · iframe Ht Hb Hl Hs
  iintro Hf
  iapply Hk
  unfold gatFl
  iapply (Transfers.Flight_mono countersEmb (thrV d L) ?_) $$ Hf
  iintro ⟨Hb, Ht, Hl⟩
  isplitl [Hb]
  · iexists fd
    iapply (Entails.of_eq (congrArg (fun w => (buf.view.loc (thrV d L) ↦{fullShare} buf.view.write (Elt F) fd w Finset.univ : sProp 𝕄))
      (gather_pay L tab ix hix r f0 _ _)))
    iexact Hb
  iframe Ht Hl

theorem gatW_step (Q : PUnit.{1} → sProp 𝕄) (q q' : PosShare TreeShare) (r : Fin 32) :
    iprop(gatFl d L tab ix f0 buf sem q q' r ∗ owing (F := F) d L O W ∗ Transfers.MayWaits (thrV d L) (default : HIx 1) O)
      ⊢ iprop((iprop(stgPts d L tab ix buf r ∗ tabPts d L tab q ∗ lstPts d L ix f0 q' ∗ sem0 d L sem ∗ owing (F := F) d L O W)
          -∗ wp frame (wpE (defs₀ (F := F)) 𝒱₀ (thrV d L) none) Set.univ (k ⟨⟩) Q)
        -∗ wp frame (wpE (defs₀ (F := F)) 𝒱₀ (thrV d L) none) Set.univ (gatW L tV buf hbuf sem >>= k) Q) := by
  unfold gatFl
  iintro ⟨Hf, ⟨%W', %hW', HO⟩, Hmw⟩ Hk
  iapply (Transfers.wp_waitLocalO countersEmb 𝒱₀ (thrV d L) none (default : HIx 1) (rfl : buf.view.dmaCredit = _)) $$ [Hf HO Hmw]
  · isplitl [Hf]; · iexact Hf
    isplitl [HO]; · iexact HO
    iapply (Transfers.MayWaits.elim (SemLoc.dma sem.sem)) $$ Hmw
  iintro ⟨⟨Hb, Ht, Hl⟩, Hs, HO⟩
  iapply Hk
  iframe Hb Ht Hl Hs
  iexists _
  isplitr
  swap; · iexact HO
  ipureintro; intro p hp
  rcases Finset.mem_insert.mp hp with hp | hp
  · exact .inr (hp ▸ rfl)
  · exact hW' p hp

theorem outO_step (Q : PUnit.{1} → sProp 𝕄) (f : S393216x128.Idx → F .f32) (r : Fin 32) :
    iprop(stgPts d L tab ix buf r ∗ outPts d L f r ∗ sem0 d L sem)
      ⊢ iprop((outFl d L tab ix buf sem r -∗ wp frame (wpE (defs₀ (F := F)) 𝒱₀ (thrV d L) none) Set.univ (k ⟨⟩) Q)
        -∗ wp frame (wpE (defs₀ (F := F)) 𝒱₀ (thrV d L) none) Set.univ (outO L oV buf hbuf sem r >>= k) Q) := by
  iintro ⟨⟨%fb, Hb⟩, Ho, Hs⟩ Hk
  iapply (Transfers.wp_dmaFromWhole countersEmb 𝒱₀ (thrV d L) none (src := buf) (dst := outM L oV r) (default : HIx 1) (outM L oV r).view.dmaCredit rfl
    (show 0 < (Memref.whole cc1_scratch1 : Memref sig Kind.scVector Space.vmem S384x128 EltTy.f32).view.dmaCredit by decide) (Sd := chunkSet (chunkNo L r.val)) (Finset.Subset.antisymm_iff.mp (outM_set L r)).1) $$ [Hb Ho Hs]
  · iframe Hb Ho Hs
  iintro Hf
  iapply Hk
  unfold outFl
  iapply (Transfers.Flight_mono countersEmb (thrV d L) ?_) $$ Hf
  rw [View.read_write_univ]
  iintro ⟨Ho, Hb⟩
  isplitl [Ho]
  · iapply (Entails.of_eq (pointsTo_congr fun p hp => outM_write L tab ix r f p hp)); iexact Ho
  · iexists _; iexact Hb

theorem outW_step (Q : PUnit.{1} → sProp 𝕄) (r : Fin 32) :
    iprop(outFl d L tab ix buf sem r ∗ owing (F := F) d L O W ∗ Transfers.MayWaits (thrV d L) (default : HIx 1) O)
      ⊢ iprop((iprop(outPts d L (gathered tab ix) r ∗ bufPts (F := F) d L buf ∗ sem0 d L sem ∗ owing (F := F) d L O W)
          -∗ wp frame (wpE (defs₀ (F := F)) 𝒱₀ (thrV d L) none) Set.univ (k ⟨⟩) Q)
        -∗ wp frame (wpE (defs₀ (F := F)) 𝒱₀ (thrV d L) none) Set.univ (outW L oV buf hbuf sem r >>= k) Q) := by
  unfold outFl
  iintro ⟨Hf, ⟨%W', %hW', HO⟩, Hmw⟩ Hk
  iapply (Transfers.wp_waitLocalO countersEmb 𝒱₀ (thrV d L) none (default : HIx 1) (rfl : (outM L oV r).view.dmaCredit = _)) $$ [Hf HO Hmw]
  · isplitl [Hf]; · iexact Hf
    isplitl [HO]; · iexact HO
    iapply (Transfers.MayWaits.elim (SemLoc.dma sem.sem)) $$ Hmw
  iintro ⟨⟨Ho, Hb⟩, Hs, HO⟩
  iapply Hk
  iframe Ho Hb Hs
  iexists _
  isplitr
  swap; · iexact HO
  ipureintro; intro p hp
  rcases Finset.mem_insert.mp hp with hp | hp
  · exact .inr (hp ▸ rfl)
  · exact hW' p hp

end Cert.KernelIdeal.Run
end
-- ==== Proof.IdealRun.Rounds.lean ====
/-
  The task's loop: between rounds, the gather of an odd chunk is in flight into the second buffer and the copy out of the even
  chunk before it from the first; the chunks before those hold their rows of the table, the ones after are as they were.
-/
module

public import proofs.«01_k».proof.Proof.IdealRun.Steps

@[expose] public section

noncomputable section

namespace Cert.KernelIdeal.Run

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig (HIx 1) (Elt F) ℕ UU ℕ
local notation "tV" => (Memref.whole main_v1_scv : Memref sig Kind.scVector Space.hbm S786432x128 EltTy.f32)
local notation "iV" => (Memref.whole main_v13_scv : Memref sig Kind.scVector Space.hbm S1024x384 EltTy.i32)
local notation "oV" => (Memref.whole main_v14_scv : Memref sig Kind.scVector Space.hbm S393216x128 EltTy.f32)
local notation "lV" => (Memref.whole cc1_scratch0 : Memref sig Kind.scVector Space.vmem S32x384 EltTy.i32)
local notation "bA" => (Memref.whole cc1_scratch1 : Memref sig Kind.scVector Space.vmem S384x128 EltTy.f32)
local notation "bB" => (Memref.whole cc1_scratch2 : Memref sig Kind.scVector Space.vmem S384x128 EltTy.f32)

variable (d : Dev nD) (L : grid1.Coords)
variable (tab : S786432x128.Idx → F .f32) (ix : S1024x384.Idx → BitVec 32) (f0 : S32x384.Idx → BitVec 32) (o : S393216x128.Idx → F .f32)
variable (qa qa' qb qb' : PosShare TreeShare)
variable (O : CellTallies nD τ sig (HIx 1)) (W : Waits sig (HIx 1))

/-- The chunks before `n`, at the rows they are to hold. -/
def doneTo (n : ℕ) : sProp 𝕄 := bigSep (Finset.univ.filter fun r : Fin 32 => r.val < n) fun r => outPts d L (gathered tab ix) r
/-- The chunks from `n` on, as the task found them. -/
def todoFrom (n : ℕ) : sProp 𝕄 := bigSep (Finset.univ.filter fun r : Fin 32 => n ≤ r.val) fun r => outPts (F := F) d L o r

theorem todo_split (r : Fin 32) : (todoFrom d L o r.val : sProp 𝕄) = iprop(outPts (F := F) d L o r ∗ todoFrom d L o (r.val + 1)) := by
  unfold todoFrom
  rw [SparseCore.bigSep_erase' (i := r) (by simp)]
  congr 2
  ext x; simp only [Finset.mem_erase, Finset.mem_filter, Finset.mem_univ, true_and, ne_eq, Fin.ext_iff]; omega

theorem done_split (r : Fin 32) : (doneTo d L tab ix (r.val + 1) : sProp 𝕄) = iprop(outPts d L (gathered tab ix) r ∗ doneTo d L tab ix r.val) := by
  unfold doneTo
  rw [SparseCore.bigSep_erase' (i := r) (by simp)]
  congr 2
  ext x; simp only [Finset.mem_erase, Finset.mem_filter, Finset.mem_univ, true_and, ne_eq, Fin.ext_iff]; omega

/-- Between rounds: `a` the even chunk leaving the first buffer, `b` the odd one arriving in the second. -/
def between (a b : Fin 32) : sProp 𝕄 :=
  iprop(outFl d L tab ix bA cc1_scratch5 a ∗ gatFl d L tab ix f0 bB cc1_scratch4 qb qb' b
    ∗ sem0 (F := F) d L cc1_scratch3 ∗ sem0 (F := F) d L cc1_scratch6 ∗ tabPts d L tab qa ∗ lstPts d L ix f0 qa'
    ∗ doneTo d L tab ix a.val ∗ todoFrom d L o (a.val + 1) ∗ owing (F := F) d L O W)

variable (hix : ∀ j, (ix j).toNat < 786432)

include hix in
theorem round_step (Q : PUnit.{1} → sProp 𝕄) (k : Fin 15) (K : PUnit.{1} → TP F L) :
    iprop(between d L tab ix f0 o qa qa' qb qb' O W ⟨2 * k.val, by omega⟩ ⟨2 * k.val + 1, by omega⟩ ∗ Transfers.MayWaits (thrV d L) (default : HIx 1) O)
      ⊢ iprop((between d L tab ix f0 o qa qa' qb qb' O W ⟨2 * k.val + 2, by omega⟩ ⟨2 * k.val + 3, by omega⟩
          -∗ wp frame (wpE (defs₀ (F := F)) 𝒱₀ (thrV d L) none) Set.univ (K ⟨⟩) Q)
        -∗ wp frame (wpE (defs₀ (F := F)) 𝒱₀ (thrV d L) none) Set.univ (round L tV oV lV bA (Memref.isWhole_whole cc1_scratch1) bB (Memref.isWhole_whole cc1_scratch2) cc1_scratch3 cc1_scratch4 cc1_scratch5 cc1_scratch6 k >>= K) Q) := by
  have hNA : ∑ j, ((bA).slice (S384x128.rowRect (gathers_S786432x128_S384x128).axis' j) (S384x128.stride_rowRect (gathers_S786432x128_S384x128).axis' j)).view.dmaCredit
      = (bA).view.dmaCredit := SparseCore.sum_rowCredit_eq_dmaCredit _ _ fun _ => rfl
  have hNB : ∑ j, ((bB).slice (S384x128.rowRect (gathers_S786432x128_S384x128).axis' j) (S384x128.stride_rowRect (gathers_S786432x128_S384x128).axis' j)).view.dmaCredit
      = (bB).view.dmaCredit := SparseCore.sum_rowCredit_eq_dmaCredit _ _ fun _ => rfl
  unfold between round
  simp only [bind_assoc]
  iintro ⟨⟨Hof, Hgf, Hs3, Hs6, Ht, Hl, Hdone, Htodo, HO⟩, #Hmw⟩ Hk
  -- the even chunk has left
  iapply (outW_step d L tab ix bA (Memref.isWhole_whole cc1_scratch1) cc1_scratch5 O W) $$ [Hof HO]
  · iframe Hof HO; iexact Hmw
  iintro ⟨Ho, Hb, Hs5, HO⟩
  ihave Hdone := (Entails.of_eq (done_split d L tab ix ⟨2 * k.val, by omega⟩).symm) $$ [Ho Hdone]
  · iframe Ho Hdone
  iapply (gatO_step d L tab ix f0 bA cc1_scratch3 (hix := hix) (hN := hNA) (q := qa) (q' := qa')) $$ [Ht Hb Hl Hs3]
  · iframe Ht Hb Hl Hs3
  iintro HgA
  -- the odd chunk has arrived, and leaves
  iapply (gatW_step d L tab ix f0 bB (Memref.isWhole_whole cc1_scratch2) cc1_scratch4 O W) $$ [Hgf HO]
  · iframe Hgf HO; iexact Hmw
  iintro ⟨Hb, Ht, Hl, Hs4, HO⟩
  ihave Htodo := (Entails.of_eq (todo_split d L o ⟨2 * k.val + 1, by omega⟩)) $$ Htodo
  icases Htodo with ⟨Ho, Htodo⟩
  iapply (outO_step d L tab ix bB (Memref.isWhole_whole cc1_scratch2) cc1_scratch6) $$ [Hb Ho Hs6]
  · iframe Hb Ho Hs6
  iintro Hof
  iapply (outW_step d L tab ix bB (Memref.isWhole_whole cc1_scratch2) cc1_scratch6 O W) $$ [Hof HO]
  · iframe Hof HO; iexact Hmw
  iintro ⟨Ho, Hb, Hs6, HO⟩
  ihave Hdone := (Entails.of_eq (done_split d L tab ix ⟨2 * k.val + 1, by omega⟩).symm) $$ [Ho Hdone]
  · iframe Ho Hdone
  iapply (gatO_step d L tab ix f0 bB cc1_scratch4 (hix := hix) (hN := hNB) (q := qb) (q' := qb')) $$ [Ht Hb Hl Hs4]
  · iframe Ht Hb Hl Hs4
  iintro HgB
  -- the next even chunk has arrived, and leaves
  iapply (gatW_step d L tab ix f0 bA (Memref.isWhole_whole cc1_scratch1) cc1_scratch3 O W) $$ [HgA HO]
  · iframe HgA HO; iexact Hmw
  iintro ⟨Hb, Ht, Hl, Hs3, HO⟩
  ihave Htodo := (Entails.of_eq (todo_split d L o ⟨2 * k.val + 2, by omega⟩)) $$ Htodo
  icases Htodo with ⟨Ho, Htodo⟩
  iapply (outO_step d L tab ix bA (Memref.isWhole_whole cc1_scratch1) cc1_scratch5) $$ [Hb Ho Hs5]
  · iframe Hb Ho Hs5
  iintro Hof
  iapply Hk
  iframe Hof HgB Hs3 Hs6 Ht Hl Hdone Htodo HO

include hix in
theorem rounds_step (Q : PUnit.{1} → sProp 𝕄) (K : PUnit.{1} → TP F L) : ∀ (n : ℕ) (hn : n ≤ 15),
    iprop(between d L tab ix f0 o qa qa' qb qb' O W ⟨2 * (15 - n), by omega⟩ ⟨2 * (15 - n) + 1, by omega⟩ ∗ Transfers.MayWaits (thrV d L) (default : HIx 1) O)
      ⊢ iprop((between d L tab ix f0 o qa qa' qb qb' O W 30 31
          -∗ wp frame (wpE (defs₀ (F := F)) 𝒱₀ (thrV d L) none) Set.univ (K ⟨⟩) Q)
        -∗ wp frame (wpE (defs₀ (F := F)) 𝒱₀ (thrV d L) none) Set.univ (rounds L tV oV lV bA (Memref.isWhole_whole cc1_scratch1) bB (Memref.isWhole_whole cc1_scratch2) cc1_scratch3 cc1_scratch4 cc1_scratch5 cc1_scratch6 n hn >>= K) Q)
  | 0, _ => by
    simp only [rounds, pure_bind]
    iintro ⟨H, -⟩ Hk
    iapply Hk; iexact H
  | n + 1, hn => by
    have ih := rounds_step Q K n (by omega)
    simp only [rounds, bind_assoc]
    iintro ⟨H, #Hmw⟩ Hk
    iapply (round_step d L tab ix f0 o qa qa' qb qb' O W hix Q ⟨14 - n, Nat.lt_succ_of_le (Nat.sub_le 14 n)⟩ _) $$ [H]
    · isplitl [H]
      · rw [show (⟨2 * (15 - (n + 1)), by omega⟩ : Fin 32) = ⟨2 * (14 - n), by omega⟩ from Fin.ext (by simp only; omega),
          show (⟨2 * (15 - (n + 1)) + 1, by omega⟩ : Fin 32) = ⟨2 * (14 - n) + 1, by omega⟩ from Fin.ext (by simp only; omega)]
        iexact H
      · iexact Hmw
    iintro H
    iapply ih $$ [H]
    · isplitl [H]
      · rw [show (⟨2 * (15 - n), by omega⟩ : Fin 32) = ⟨2 * (14 - n) + 2, by omega⟩ from Fin.ext (by simp only; omega),
          show (⟨2 * (15 - n) + 1, by omega⟩ : Fin 32) = ⟨2 * (14 - n) + 3, by omega⟩ from Fin.ext (by simp only; omega)]
        iexact H
      · iexact Hmw
    iexact Hk

end Cert.KernelIdeal.Run
end
-- ==== Proof.IdealRun.Tile.lean ====
/-
  The gather task on one vector subcore, whole: from a share of the table and of the index lists and the 32 chunks of the result
  that are the task's, it hands the shares back and the chunks holding the rows the lists name.
-/
module

public import proofs.«01_k».proof.Proof.IdealRun.Rounds

@[expose] public section

noncomputable section

namespace Cert.KernelIdeal.Run

open Cert.KernelIdeal Cert.KernelIdeal.Gen
open Idealize.ShloMosaic
open Idealize.ShloMosaic.SparseCore (S V T)
open Idealize.ShloMosaic.SparseCore.Cfg (HIx Pay ownCells ownSems0 mem_ownCells ownRefs ownBufs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig (HIx 1) (Elt F) ℕ UU ℕ
local notation "tV" => (Memref.whole main_v1_scv : Memref sig Kind.scVector Space.hbm S786432x128 EltTy.f32)
local notation "iV" => (Memref.whole main_v13_scv : Memref sig Kind.scVector Space.hbm S1024x384 EltTy.i32)
local notation "oV" => (Memref.whole main_v14_scv : Memref sig Kind.scVector Space.hbm S393216x128 EltTy.f32)
local notation "lV" => (Memref.whole cc1_scratch0 : Memref sig Kind.scVector Space.vmem S32x384 EltTy.i32)
local notation "bA" => (Memref.whole cc1_scratch1 : Memref sig Kind.scVector Space.vmem S384x128 EltTy.f32)
local notation "bB" => (Memref.whole cc1_scratch2 : Memref sig Kind.scVector Space.vmem S384x128 EltTy.f32)

variable (d : Dev nD) (L : grid1.Coords)

abbrev cV : Fin τ.nSC := (L 0).castLE hcore1
abbrev jV : Fin τ.nSub := (L 1).castLE hsub1
abbrev cellV (s : DmaSems sig S_) : GSem nD τ sig := (thrV d L, .dma s.sem)

theorem ownSems0_V :
    (ownSems0 (thrV d L) : sProp 𝕄)
      = iprop(sem0 (F := F) d L cc1_scratch3 ∗ sem0 (F := F) d L cc1_scratch4 ∗ sem0 (F := F) d L cc1_scratch5 ∗ sem0 (F := F) d L cc1_scratch6
          ∗ sem0 (F := F) d L cc1_scoped0
          ∗ bigSep ((((((ownCells (thrV d L)).erase (cellV d L cc1_scratch3)).erase (cellV d L cc1_scratch4)).erase (cellV d L cc1_scratch5)).erase
              (cellV d L cc1_scratch6)).erase (cellV d L cc1_scoped0)) fun g => semVal g 0) := by
  have own : ∀ s : DmaSems sig S_, (SemLoc.dma s.sem : SemLoc sig).isScoped .scVector = true → cellV d L s ∈ ownCells (thrV d L) :=
    fun s h => (mem_ownCells (g := cellV d L s)).mpr ⟨rfl, h⟩
  have ne : ∀ s s' : DmaSems sig S_, s.sem ≠ s'.sem → cellV d L s ≠ cellV d L s' := fun s s' h e =>
    h (SemLoc.dma.inj (Prod.mk.inj e).2)
  unfold SparseCore.Cfg.ownSems0
  rw [SparseCore.bigSep_erase' (own cc1_scratch3 (by decide)),
    SparseCore.bigSep_erase' (Finset.mem_erase.mpr ⟨ne cc1_scratch4 cc1_scratch3 (by decide), own cc1_scratch4 (by decide)⟩),
    SparseCore.bigSep_erase' (Finset.mem_erase.mpr ⟨ne cc1_scratch5 cc1_scratch4 (by decide), Finset.mem_erase.mpr ⟨ne cc1_scratch5 cc1_scratch3 (by decide),
      own cc1_scratch5 (by decide)⟩⟩),
    SparseCore.bigSep_erase' (Finset.mem_erase.mpr ⟨ne cc1_scratch6 cc1_scratch5 (by decide), Finset.mem_erase.mpr ⟨ne cc1_scratch6 cc1_scratch4 (by decide),
      Finset.mem_erase.mpr ⟨ne cc1_scratch6 cc1_scratch3 (by decide), own cc1_scratch6 (by decide)⟩⟩⟩),
    SparseCore.bigSep_erase' (Finset.mem_erase.mpr ⟨ne cc1_scoped0 cc1_scratch6 (by decide), Finset.mem_erase.mpr ⟨ne cc1_scoped0 cc1_scratch5 (by decide),
      Finset.mem_erase.mpr ⟨ne cc1_scoped0 cc1_scratch4 (by decide), Finset.mem_erase.mpr ⟨ne cc1_scoped0 cc1_scratch3 (by decide), own cc1_scoped0 (by decide)⟩⟩⟩⟩)]

/-- The list buffer and the two staging buffers are among the subcore's own. -/
theorem ownBufs_V :
    (ownBufs (thrV d L) : sProp 𝕄)
      = iprop((∃ f, (thrV d L).loc cc1_scratch0 ↦{fullShare} f) ∗ (∃ f, (thrV d L).loc cc1_scratch1 ↦{fullShare} f)
          ∗ (∃ f, (thrV d L).loc cc1_scratch2 ↦{fullShare} f)
          ∗ bigSep ((((ownRefs (τ := τ) (.scVector (cV L) (jV L))).erase ((Proc.scVector (cV L) (jV L)).devRef cc1_scratch0)).erase
              ((Proc.scVector (cV L) (jV L)).devRef cc1_scratch1)).erase ((Proc.scVector (cV L) (jV L)).devRef cc1_scratch2))
              fun b => iprop(∃ f, ((d, b) : Loc nD τ sig) ↦{fullShare} f)) := by
  have own : ∀ r : Ref sig .scVector, ((Proc.scVector (cV L) (jV L)).devRef r : DevRef τ sig).owner = .proc (Proc.scVector (cV L) (jV L)) →
      (Proc.scVector (cV L) (jV L)).devRef r ∈ ownRefs (τ := τ) (.scVector (cV L) (jV L)) :=
    fun r h => SparseCore.Cfg.mem_ownRefs_of_owner h
  have ne : ∀ r r' : Ref sig .scVector, r ≠ r' → (Proc.scVector (cV L) (jV L)).devRef r ≠ (Proc.scVector (cV L) (jV L)).devRef r' :=
    fun r r' h e => h (Proc.devRef_injective _ e)
  unfold SparseCore.Cfg.ownBufs
  refine (SparseCore.bigSep_erase' (own cc1_scratch0 rfl)).trans ?_
  rw [SparseCore.bigSep_erase' (Finset.mem_erase.mpr ⟨ne cc1_scratch1 cc1_scratch0 (by decide), own cc1_scratch1 rfl⟩),
    SparseCore.bigSep_erase' (Finset.mem_erase.mpr ⟨ne cc1_scratch2 cc1_scratch1 (by decide), Finset.mem_erase.mpr ⟨ne cc1_scratch2 cc1_scratch0 (by decide),
      own cc1_scratch2 rfl⟩⟩)]

variable (tab : S786432x128.Idx → F .f32) (ix : S1024x384.Idx → BitVec 32) (o : S393216x128.Idx → F .f32)
variable (q : PosShare TreeShare)

/-- What the task takes: its shares of the table and of the lists, and its chunks as they are. -/
def goes : sProp 𝕄 := iprop((tabLoc d ↦{q} (tab : Buf (Elt F) (tabLoc d))) ∗ (idxLoc d ↦{q} (ix : Buf (Elt F) (idxLoc d)))
  ∗ bigSep Finset.univ fun r : Fin 32 => outPts (F := F) d L o r)

set_option maxHeartbeats 4000000 in
theorem tile_loop (hix : ∀ j, (ix j).toNat < 786432) (O : CellTallies nD τ sig (HIx 1)) (W : Waits sig (HIx 1)) (hO : ∀ g, O g none = 0) (hF : (KS F).Facts) :
    iprop(levAts (KS F).L (KS F).lev ∗ emp ∗ goes d L tab ix o q
        ∗ scopedBufs (thrV d L) ∗ scopedSems0 (thrV d L) ∗ owes (thrV d L) O W)
      ⊢ wp frame (wpE (defs₀ (F := F)) 𝒱₀ (thrV d L) none) Set.univ
          (gatherLoop L tV iV oV lV (Memref.isWhole_whole _) bA (Memref.isWhole_whole _) bB (Memref.isWhole_whole _)
            cc1_scratch3 cc1_scratch4 cc1_scratch5 cc1_scratch6 cc1_scoped0)
          fun _ => iprop(goes d L tab ix (gathered tab ix) q
            ∗ scopedBufs (thrV d L) ∗ scopedSems0 (thrV d L)
            ∗ ∃ W', ⌜∀ p ∈ W', p ∈ W ∨ p.2 = none⌝ ∗ owes (thrV d L) O W') := by
  have hNA : ∑ j, ((bA).slice (S384x128.rowRect (gathers_S786432x128_S384x128).axis' j) (S384x128.stride_rowRect (gathers_S786432x128_S384x128).axis' j)).view.dmaCredit
      = (bA).view.dmaCredit := SparseCore.sum_rowCredit_eq_dmaCredit _ _ fun _ => rfl
  have hNB : ∑ j, ((bB).slice (S384x128.rowRect (gathers_S786432x128_S384x128).axis' j) (S384x128.stride_rowRect (gathers_S786432x128_S384x128).axis' j)).view.dmaCredit
      = (bB).view.dmaCredit := SparseCore.sum_rowCredit_eq_dmaCredit _ _ fun _ => rfl
  have e0 : (bigSep Finset.univ fun r : Fin 32 => outPts (F := F) d L o r : sProp 𝕄) = todoFrom d L o (0 : Fin 32).val := by
    unfold todoFrom; rw [Finset.filter_true_of_mem (by intro x _; exact Nat.zero_le _)]
  have e1 : (doneTo d L tab ix ((31 : Fin 32).val + 1) : sProp 𝕄) = bigSep Finset.univ fun r : Fin 32 => outPts (F := F) d L (gathered tab ix) r := by
    unfold doneTo; rw [Finset.filter_true_of_mem (by intro x _; exact x.isLt)]
  have e2 : (iprop(emp) : sProp 𝕄) = doneTo d L tab ix (0 : Fin 32).val := by
    unfold doneTo; rw [Finset.filter_false_of_mem (by intro x _; simp)]; rfl
  unfold goes gatherLoop
  rw [(KS F).scopedBufs_V hF d (cV L) (jV L), SparseCore.Cfg.scopedSems0_V (Val := Elt F) d (cV L) (jV L), ownSems0_V, ownBufs_V, e0]
  iintro ⟨#Hlv, -, ⟨Htab, Hix, Htodo⟩, ⟨⟨%fl, Hl⟩, ⟨%fa, Ha⟩, ⟨%fb, Hb⟩, Hbufs⟩, ⟨Hs3, Hs4, Hs5, Hs6, Hs0, Hsems⟩, HO⟩
  ihave #Hmw := (show levAts (KS F).L (KS F).lev ⊢ Transfers.MayWaits (thrV d L) (default : HIx 1) O from
    (KS F).mayWaits_none (thr := thrV d L) hO) $$ Hlv
  -- the lists come in
  iapply (Transfers.wp_dmaFromWhole countersEmb 𝒱₀ (thrV d L) none (src := idxM L iV) (dst := lV) (default : HIx 1) (lV).view.dmaCredit rfl
    (by decide) (Sd := Finset.univ) (Finset.subset_univ _)) $$ [Hix Hl Hs0]
  · isplitl [Hix]; · iexact Hix
    isplitl [Hl]; · iexact Hl
    iexact Hs0
  iintro Hf
  iapply (Transfers.wp_waitLocalO countersEmb 𝒱₀ (thrV d L) none (default : HIx 1) (rfl : (lV).view.dmaCredit = _)) $$ [Hf HO]
  · isplitl [Hf]; · iexact Hf
    isplitl [HO]; · iexact HO
    iapply (Transfers.MayWaits.elim (SemLoc.dma cc1_scoped0.sem)) $$ Hmw
  iintro ⟨⟨Hl, Hix⟩, Hs0, HO⟩
  ihave HO := (show owes (thrV d L) O (insert (SemLoc.dma cc1_scoped0.sem, (default : HIx 1)) W) ⊢ (owing (F := F) d L O W : sProp 𝕄) by
    iintro H; iexists _; isplitr
    swap; · iexact H
    ipureintro; intro p hp
    rcases Finset.mem_insert.mp hp with hp | hp
    · exact .inr (hp ▸ rfl)
    · exact .inl hp) $$ HO
  ihave Hl := (Entails.of_eq (show ((lV).view.loc (thrV d L) ↦{fullShare} View.write (Elt F) (lV).view fl
      (ReadAs.same.apply (View.read (Elt F) (idxM L iV).view ix)) Finset.univ : sProp 𝕄) = lstPts d L ix fl fullShare from rfl)) $$ Hl
  -- the table's share and the lists in two halves each
  ihave Htab := (pointsTo_share (PosShare.mem_left_op_right q)).1 $$ Htab
  icases Htab with ⟨Ht, Ht'⟩
  ihave Hl := (pointsTo_share (PosShare.mem_left_op_right fullShare)).1 $$ Hl
  icases Hl with ⟨Hl, Hl'⟩
  -- the first two gathers
  iapply (gatO_step d L tab ix fl bA cc1_scratch3 (hix := hix) (hN := hNA) (q := q.left) (q' := fullShare.left)) $$ [Ht Ha Hl Hs3]
  · isplitl [Ht]; · iexact Ht
    isplitl [Ha]; · iexists fa; iexact Ha
    iframe Hl Hs3
  iintro HgA
  iapply (gatO_step d L tab ix fl bB cc1_scratch4 (hix := hix) (hN := hNB) (q := q.right) (q' := fullShare.right)) $$ [Ht' Hb Hl' Hs4]
  · isplitl [Ht']; · iexact Ht'
    isplitl [Hb]; · iexists fb; iexact Hb
    iframe Hl' Hs4
  iintro HgB
  -- the first chunk out
  iapply (gatW_step d L tab ix fl bA (Memref.isWhole_whole cc1_scratch1) cc1_scratch3 O W) $$ [HgA HO]
  · iframe HgA HO; iexact Hmw
  iintro ⟨Ha, Ht, Hl, Hs3, HO⟩
  ihave Htodo := (Entails.of_eq (todo_split d L o 0)) $$ Htodo
  icases Htodo with ⟨Ho, Htodo⟩
  iapply (outO_step d L tab ix bA (Memref.isWhole_whole cc1_scratch1) cc1_scratch5) $$ [Ha Ho Hs5]
  · iframe Ha Ho Hs5
  iintro Hof
  -- the rounds
  iapply (rounds_step d L tab ix fl o q.left fullShare.left q.right fullShare.right O W hix _ _ 15 le_rfl) $$ [Hof HgB Hs3 Hs6 Ht Hl Htodo HO]
  · isplitl; swap; · iexact Hmw
    unfold between
    isplitl [Hof]; · iexact Hof
    isplitl [HgB]; · iexact HgB
    isplitl [Hs3]; · iexact Hs3
    isplitl [Hs6]; · iexact Hs6
    isplitl [Ht]; · iexact Ht
    isplitl [Hl]; · iexact Hl
    isplitr [Htodo HO]; · iapply (Entails.of_eq e2); iempintro
    isplitl [Htodo]; · iexact Htodo
    iexact HO
  unfold between
  iintro ⟨HoA, HgB, Hs3, Hs6, Ht, Hl, Hdone, Htodo, HO⟩
  -- the last chunk
  iapply (gatW_step d L tab ix fl bB (Memref.isWhole_whole cc1_scratch2) cc1_scratch4 O W) $$ [HgB HO]
  · iframe HgB HO; iexact Hmw
  iintro ⟨Hb, Ht', Hl', Hs4, HO⟩
  ihave Htodo := (Entails.of_eq ((show todoFrom d L o ((30 : Fin 32).val + 1) = (todoFrom d L o (31 : Fin 32).val : sProp 𝕄) from rfl).trans (todo_split d L o 31))) $$ Htodo
  icases Htodo with ⟨Ho, Htodo⟩
  iapply (outO_step d L tab ix bB (Memref.isWhole_whole cc1_scratch2) cc1_scratch6) $$ [Hb Ho Hs6]
  · iframe Hb Ho Hs6
  iintro HoB
  iapply (outW_step d L tab ix bA (Memref.isWhole_whole cc1_scratch1) cc1_scratch5 O W) $$ [HoA HO]
  · iframe HoA HO; iexact Hmw
  iintro ⟨Ho, Ha, Hs5, HO⟩
  ihave Hdone := (Entails.of_eq (done_split d L tab ix 30).symm) $$ [Ho Hdone]
  · iframe Ho Hdone
  iapply (outW_step d L tab ix bB (Memref.isWhole_whole cc1_scratch2) cc1_scratch6 O W (fun _ => .ret ⟨⟩)) $$ [HoB HO]
  · iframe HoB HO; iexact Hmw
  iintro ⟨Ho, Hb, Hs6, HO⟩
  ihave Hdone := (Entails.of_eq (show doneTo d L tab ix ((30 : Fin 32).val + 1) = (doneTo d L tab ix (31 : Fin 32).val : sProp 𝕄) from rfl)) $$ Hdone
  ihave Hdone := (Entails.of_eq (done_split d L tab ix 31).symm) $$ [Ho Hdone]
  · iframe Ho Hdone
  ihave Hdone := (Entails.of_eq e1) $$ Hdone
  ihave Htab := (pointsTo_share (PosShare.mem_left_op_right q)).2 $$ [Ht Ht']
  · isplitl [Ht]; · iexact Ht
    iexact Ht'
  ihave Hl := (pointsTo_share (PosShare.mem_left_op_right fullShare)).2 $$ [Hl Hl']
  · isplitl [Hl]; · iexact Hl
    iexact Hl'
  sl_step
  isplitl [Htab Hix Hdone]
  · isplitl [Htab]; · iexact Htab
    isplitl [Hix]; · iexact Hix
    iexact Hdone
  isplitl [Hl Ha Hb Hbufs]
  · isplitl [Hl]; · iexists _; iexact Hl
    isplitl [Ha]; · iexact Ha
    isplitl [Hb]; · iexact Hb
    iexact Hbufs
  isplitl [Hs3 Hs4 Hs5 Hs6 Hs0 Hsems]
  · iframe Hs3 Hs4 Hs5 Hs6 Hs0 Hsems
  iexact HO

end Cert.KernelIdeal.Run
end
-- ==== Proof.IdealRun.Deal.lean ====
/-
  The gather's operands dealt to its 32 tasks and collected from them: every task takes a thirty-second share of the table and of the index lists, and its own 32 chunks of the result.
-/
module

public import proofs.«01_k».proof.Proof.IdealRun.Tile

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Pipeline (Dat Cfg Window BodyObligation cellOf)

variable {F : FTy → Type} [FloatOps F]

local notation "𝕄" => MT nD τ sig (HIx 1) (Elt F) ℕ UU ℕ

/-- The coordinates of the task on subcore `s` of SparseCore `c`. -/
def coordsV (c : Fin (grid1.bound 0)) (s : Fin (grid1.bound 1)) : grid1.Coords :=
  fun | 0 => c | 1 => s | ⟨_ + 2, h⟩ => absurd h (Nat.not_lt.2 (Nat.le_add_left _ _))

/-- A task's share of what all of them read. -/
def shareOf (k : Fin 2 × Fin 16) : PosShare TreeShare := pieceOf fullShare 32 (by decide) (finProdFinEquiv k)

/-- The chunk that chunk `t.2.2` of the task on subcore `t.2.1` of SparseCore `t.1` is. -/
def chunkAt (t : (Fin 2 × Fin 16) × Fin 32) : ℕ := 64 * t.1.2.val + 32 * t.1.1.val + t.2.val

theorem chunkAt_inj {t t' : (Fin 2 × Fin 16) × Fin 32} (h : chunkAt t = chunkAt t') : t = t' := by
  obtain ⟨⟨c, s⟩, r⟩ := t
  obtain ⟨⟨c', s'⟩, r'⟩ := t'
  have hc := c.isLt; have hc' := c'.isLt; have hs := s.isLt; have hs' := s'.isLt; have hr := r.isLt; have hr' := r'.isLt
  have h' : 64 * s.val + 32 * c.val + r.val = 64 * s'.val + 32 * c'.val + r'.val := h
  have e1 : c = c' := Fin.ext (by omega)
  have e2 : s = s' := Fin.ext (by omega)
  have e3 : r = r' := Fin.ext (by omega)
  rw [e1, e2, e3]

theorem chunks_disjoint : ∀ t ∈ (Finset.univ : Finset ((Fin 2 × Fin 16) × Fin 32)), ∀ t' ∈ (Finset.univ : Finset ((Fin 2 × Fin 16) × Fin 32)),
    t ≠ t' → Disjoint (chunkSet (chunkAt t)) (chunkSet (chunkAt t')) := by
  intro t _ t' _ hne
  refine Finset.disjoint_left.mpr fun p hp hp' => hne (chunkAt_inj ?_)
  exact (Finset.mem_filter.mp hp).2.symm.trans (Finset.mem_filter.mp hp').2

theorem chunks_cover : (Finset.univ : Finset ((Fin 2 × Fin 16) × Fin 32)).biUnion (fun t => chunkSet (chunkAt t)) = Finset.univ := by
  refine Finset.eq_univ_iff_forall.mpr fun p => ?_
  have hp : (p 0).val < 393216 := (p 0).isLt
  refine Finset.mem_biUnion.mpr ⟨((⟨(p 0).val / 384 / 32 % 2, by omega⟩, ⟨(p 0).val / 384 / 64, by omega⟩), ⟨(p 0).val / 384 % 32, by omega⟩), Finset.mem_univ _, ?_⟩
  refine Finset.mem_filter.mpr ⟨Finset.mem_univ _, ?_⟩
  show (p 0).val / 384 = 64 * ((p 0).val / 384 / 64) + 32 * ((p 0).val / 384 / 32 % 2) + (p 0).val / 384 % 32
  omega

section
variable (d : Dev nD) (tab : S786432x128.Idx → F .f32) (ix : S1024x384.Idx → BitVec 32) (o : S393216x128.Idx → F .f32)

theorem out_chunks : (outLoc d ↦{fullShare} (o : Buf (Elt F) (outLoc d)) : sProp 𝕄)
    = bigSep Finset.univ fun k : Fin 2 × Fin 16 => bigSep Finset.univ fun r : Fin 32 => outPts (F := F) d (coordsV k.1 k.2) o r := by
  have h := pointsTo_biUnion (ℓ := outLoc d) (q := fullShare) (f := (o : Buf (Elt F) (outLoc d))) (Val := Elt F) (Ix := HIx 1) (Name := ℕ) (U := UU) (Lvl := ℕ)
    (Finset.univ : Finset ((Fin 2 × Fin 16) × Fin 32)) (fun t => chunkSet (chunkAt t)) chunks_disjoint
  rw [chunks_cover] at h
  exact h.trans (bigSep_univ_prod _)

/-- The three operands whole are the tasks' parts of them. -/
theorem deal : (iprop((tabLoc d ↦{fullShare} (tab : Buf (Elt F) (tabLoc d))) ∗ (idxLoc d ↦{fullShare} (ix : Buf (Elt F) (idxLoc d)))
      ∗ (outLoc d ↦{fullShare} (o : Buf (Elt F) (outLoc d)))) : sProp 𝕄)
    = bigSep Finset.univ fun c : Fin 2 => bigSep Finset.univ fun s : Fin 16 => goes d (coordsV c s) tab ix o (shareOf (c, s)) := by
  have e1 : (tabLoc d ↦{fullShare} (tab : Buf (Elt F) (tabLoc d)) : sProp 𝕄)
      = bigSep Finset.univ fun k : Fin 2 × Fin 16 => tabLoc d ↦{shareOf k} (tab : Buf (Elt F) (tabLoc d)) :=
    (pointsTo_piecesOf Finset.univ _ (by decide : 0 < 32) fullShare).trans (bigSep_univ_equiv (finProdFinEquiv (m := 2) (n := 16)) _)
  have e2 : (idxLoc d ↦{fullShare} (ix : Buf (Elt F) (idxLoc d)) : sProp 𝕄)
      = bigSep Finset.univ fun k : Fin 2 × Fin 16 => idxLoc d ↦{shareOf k} (ix : Buf (Elt F) (idxLoc d)) :=
    (pointsTo_piecesOf Finset.univ _ (by decide : 0 < 32) fullShare).trans (bigSep_univ_equiv (finProdFinEquiv (m := 2) (n := 16)) _)
  rw [e1, e2, out_chunks d o, ← bigSep_sep', ← bigSep_sep']
  exact bigSep_univ_prod _
end

end Cert.KernelIdeal.Run
end
-- ==== Proof.IdealRun.Score.lean ====
/-
  What the scoring kernel computes, as functions of its two inputs: per block of 512 keys the four best scores and their indices, and
  from the 16 blocks' candidates the table rows to gather.
-/
module

public import proofs.«01_k».proof.Proof.Gen.KernelIdeal.Skeleton
public import proofs.«01_k».proof.Proof.IdealRun.Setup

@[expose] public section

noncomputable section

namespace Cert.KernelIdeal.Run

open Cert.KernelIdeal Cert.KernelIdeal.Gen
open Idealize.ShloMosaic
open Idealize.ShloMosaic.ValueIdx

variable {F : FTy → Type} [FloatOps F]

/-- Block `t` of the keys, as the kernel's fetch reads it. -/
abbrev kblk (keys : S8192x768.Idx → F .f32) (t : Fin cfg0.N) : Vec F S512x768 .f32 := ((cfg0.win 1).blk t).view.read (Elt F) keys

/-- The distances of one block's keys from the queries: negated inner products of the normalised rows. -/
def dist (x : Vec F S1024x768 .f32) (kb : Vec F S512x768 .f32) : FVec F S512x1024 .f32 := k0_pay21 kb (k0_pay18 x) (k0_pay19 x) (k0_pay20 x)

/-- The row number within a block. -/
abbrev rowNo : IVec S512x1024 32 := iota .tc S512x1024 32 [0] iota_S512x1024_d0_w32

/-- The four best scores of a block and four lanes of padding. -/
def bestVals (s : FVec F S512x1024 .f32) (i : grid0.Coords) : FVec F S1x8x1024 .f32 :=
  k0_pay1 (k0_pay24 s) (k0_pay27 s rowNo (k0_pay22 i)) (k0_pay30 s rowNo (k0_pay22 i)) (k0_pay33 s rowNo (k0_pay22 i))
/-- Their indices. -/
def bestIdxs (s : FVec F S512x1024 .f32) (i : grid0.Coords) : IVec S1x8x1024 32 :=
  k0_pay2 (k0_pay25 s rowNo (k0_pay22 i)) (k0_pay28 s rowNo (k0_pay22 i)) (k0_pay31 s rowNo (k0_pay22 i)) (k0_pay34 s rowNo (k0_pay22 i))

/-- The point a candidate comes from. -/
def ptOf (n : Fin 16) : Fin cfg0.N := ⟨n.val, Nat.lt_of_lt_of_eq n.isLt N_0.symm⟩

/-- Every block's candidates: scores and indices. -/
def candVals (x : Vec F S1024x768 .f32) (keys : S8192x768.Idx → F .f32) : Vec F S16x8x1024 .f32 := fun y =>
  bestVals (dist x (kblk keys (ptOf (y 0)))) (grid0.coords (ptOf (y 0))) (ix3 0 (y 1) (y 2))
def candIdxs (x : Vec F S1024x768 .f32) (keys : S8192x768.Idx → F .f32) : Vec F S16x8x1024 .i32 := fun y =>
  bestIdxs (dist x (kblk keys (ptOf (y 0)))) (grid0.coords (ptOf (y 0))) (ix3 0 (y 1) (y 2))

/-- The half rows of the table to gather, from the candidates. -/
def pick (v : Vec F S16x8x1024 .f32) (ix : Vec F S16x8x1024 .i32) : IVec S8x1024 32 :=
  k0_pay3 (k0_pay5 (F := F) ix) (k0_pay8 v ix) (k0_pay9 v ix) (k0_pay11 v ix) (k0_pay12 v ix) (k0_pay13 v ix)

/-- The kernel's result. -/
def chosen (x : Vec F S1024x768 .f32) (keys : S8192x768.Idx → F .f32) : IVec S8x1024 32 := pick (candVals x keys) (candIdxs x keys)

end Cert.KernelIdeal.Run
end
-- ==== Proof.IdealRun.TcStore.lean ====
/-
  The scoring kernel's two branch conditions, point by point, and what its loads and stores of whole arrays and of one block read and leave.
-/
module

public import proofs.«01_k».proof.Proof.IdealRun.Score
public import Idealize.ShloMosaic.Lib.WordCmp
public import Idealize.ShloMosaic.Lib.WritesUnit

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Pipeline (Dat Cfg Window BodyObligation cellOf)

variable {F : FTy → Type} [FloatOps F]

local notation "𝕄" => MT nD τ sig (HIx 1) (Elt F) ℕ UU ℕ
/-- The condition of the first branch: point 0. -/
abbrev isFirst (i : grid0.Coords) : Prop :=
  (Scalar.cmpi .ne (Scalar.extui (Scalar.cmpi .eq (BitVec.ofNat 32 (i 0).val) 0#32)) 0#32) = 1#1
/-- The condition of the last branch: point 15. -/
abbrev isLast (i : grid0.Coords) : Prop := k0_cond2 i = 1#1

theorem isFirst_iff (t : Fin cfg0.N) : isFirst (grid0.coords t) ↔ t.val = 0 := by
  have ht : t.val < 16 := Nat.lt_of_lt_of_eq t.isLt N_0
  have e0 : (grid0.coords t 0).val = t.val / 1 % 16 := Pipeline.Grid.coords_val t 0 (by decide) rfl
  simp only [isFirst, e0]
  word_cmp

theorem isLast_iff (t : Fin cfg0.N) : isLast (grid0.coords t) ↔ t.val = 15 := by
  have ht : t.val < 16 := Nat.lt_of_lt_of_eq t.isLt N_0
  have e0 : (grid0.coords t 0).val = t.val / 1 % 16 := Pipeline.Grid.coords_val t 0 (by decide) rfl
  simp only [isLast, k0_cond2, e0]
  word_cmp

/-- An array of blocks with one block replaced. -/
def putBlock {α : Type} (i : grid0.Coords) (c : S16x8x1024.Idx → α) (w : S1x8x1024.Idx → α) : S16x8x1024.Idx → α := fun y =>
  if (y 0).val = (i 0).val then w (ix3 0 (y 1) (y 2)) else c y

section
variable {sg : RefSig} {κ : Kind} {sp : Space} {s : Shape} {e : EltTy} {Val : EltTy → Type}

/-- A load of the whole shape reads what the view reads. -/
theorem readAt_all (v : View sg κ sp s e) (off : Fin s.rank → ℕ) (h : ∀ a, off a + s.size a ≤ s.size a) (f : v.ty.Contents Val) :
    v.readAt Val (Rect.unit (s := s) off s.size h).toLoadRect f = v.read Val f := by
  have ho : ∀ a, off a = 0 := fun a => by have := h a; omega
  funext x
  show v.read Val f _ = _
  congr 1
  funext a
  apply Fin.ext
  show off a + 1 * (x a).val = (x a).val
  rw [ho a]; omega

/-- After a store of the whole shape the view reads what was stored. -/
theorem read_stored (v : View sg κ sp s e) (off : Fin s.rank → ℕ) (h : ∀ a, off a + s.size a ≤ s.size a) (f : v.ty.Contents Val)
    (w : s.Idx → Val e) (L : List (View.Piece Val s e)) : v.read Val (v.writes Val f (⟨Rect.unit (s := s) off s.size h, w⟩ :: L)) = w := by
  have ho : off = fun _ => 0 := funext fun a => by have := h a; omega
  funext x
  exact View.read_writes_cons_unit_of_mem v f h w L x x ho fun a => (Nat.zero_add _).symm

/-- A load of the whole shape after a store of the whole shape reads what was stored. -/
theorem readCov_stored [∀ e, Nonempty (Val e)] (v : View sg κ sp s e) (off off' : Fin s.rank → ℕ) (h : ∀ a, off a + s.size a ≤ s.size a)
    (h' : ∀ a, off' a + s.size a ≤ s.size a) (w : s.Idx → Val e) (L : List (View.Piece Val s e)) :
    v.readCov (⟨Rect.unit (s := s) off s.size h, w⟩ :: L) (Rect.unit (s := s) off' s.size h').toLoadRect = w := by
  unfold View.readCov
  rw [readAt_all]
  exact read_stored _ _ _ _ _ _

/-- Where a point stores its block. -/
theorem k0_off1_eq (i : grid0.Coords) : k0_off1 i = ![(i 0).val, 0, 0] := by
  have h : (i 0).val < 16 := (i 0).isLt
  have e : (BitVec.ofNat 32 (i 0).val).toNat = (i 0).val := by rw [BitVec.toNat_ofNat]; omega
  funext a
  match a with
  | 0 => exact e
  | 1 => rfl
  | 2 => rfl

/-- After a point's store of its block the view reads the array with that block replaced. -/
theorem read_block (v : View sg κ sp S16x8x1024 e) (i : grid0.Coords) (h : ∀ a, k0_off1 i a + S1x8x1024.size a ≤ S16x8x1024.size a)
    (f : v.ty.Contents Val) (w : S1x8x1024.Idx → Val e) :
    v.read Val (v.writes Val f [⟨Rect.unit (s := S16x8x1024) (k0_off1 i) S1x8x1024.size h, w⟩]) = putBlock i (v.read Val f) w := by
  funext y
  by_cases hy : (y 0).val = (i 0).val
  · refine (View.read_writes_cons_unit_of_mem v f h w [] y (ix3 0 (y 1) (y 2)) (k0_off1_eq i) fun a => ?_).trans (if_pos hy).symm
    match a with
    | 0 => exact hy
    | 1 => exact (Nat.zero_add _).symm
    | 2 => exact (Nat.zero_add _).symm
  · refine (View.read_writes_cons_unit_of_not_mem v f h w [] y (k0_off1_eq i) 0 ?_).trans (if_neg hy).symm
    show (y 0).val < (i 0).val ∨ (i 0).val + 1 ≤ (y 0).val
    omega
end

end Cert.KernelIdeal.Run
end
-- ==== Proof.IdealRun.TcMid.lean ====
/-
  The scoring kernel's body, run once at a symbolic point: at point 0 it prepares the queries, at every point it stores its block's candidates, at the last point it merges them.
-/
module

public import proofs.«01_k».proof.Proof.IdealRun.TcStore

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Pipeline (Dat Cfg Window BodyObligation cellOf)

variable {F : FTy → Type} [FloatOps F]

local notation "𝕄" => MT nD τ sig (HIx 1) (Elt F) ℕ UU ℕ
section
variable (c : Dev nD) (i : grid0.Coords)
  (arg1 : Memref sig .tc .vmem S1024x768 .f32) (harg1 : arg1.IsWhole) (arg2 : Memref sig .tc .vmem S512x768 .f32) (harg2 : arg2.IsWhole)
  (arg3 : Memref sig .tc .vmem S8x1024 .i32) (harg3 : arg3.IsWhole) (arg4 : Memref sig .tc .vmem S1024x768 .bf16) (harg4 : arg4.IsWhole)
  (arg5 : Memref sig .tc .vmem S1024x768 .bf16) (harg5 : arg5.IsWhole) (arg6 : Memref sig .tc .vmem S1024x768 .bf16) (harg6 : arg6.IsWhole)
  (arg7 : Memref sig .tc .vmem S16x8x1024 .f32) (harg7 : arg7.IsWhole) (arg8 : Memref sig .tc .vmem S16x8x1024 .i32) (harg8 : arg8.IsWhole)
  (x0 : Vec F S1024x768 .f32) (x1 : Vec F S512x768 .f32) (q3 : Vec F S8x1024 .i32)
  (a4 a5 a6 : Vec F S1024x768 .bf16) (a7 : Vec F S16x8x1024 .f32) (a8 : Vec F S16x8x1024 .i32)

set_option maxHeartbeats 1600000 in
/-- The body at a point that is neither the first nor the last. -/
theorem run_mid (hc0 : ¬ isFirst i) (hc1 : ¬ isLast i) (E : Set ℕ) (K : PUnit.{1} → sProp 𝕄) :
    iprop(owns (c : Thread nD τ) arg1 fullShare x0 ∗ owns (c : Thread nD τ) arg2 fullShare x1 ∗ owns (c : Thread nD τ) arg3 fullShare q3
        ∗ owns (c : Thread nD τ) arg4 fullShare a4 ∗ owns (c : Thread nD τ) arg5 fullShare a5 ∗ owns (c : Thread nD τ) arg6 fullShare a6
        ∗ owns (c : Thread nD τ) arg7 fullShare a7 ∗ owns (c : Thread nD τ) arg8 fullShare a8
        ∗ (iprop(owns (c : Thread nD τ) arg1 fullShare x0 ∗ owns (c : Thread nD τ) arg2 fullShare x1 ∗ owns (c : Thread nD τ) arg3 fullShare q3
          ∗ owns (c : Thread nD τ) arg4 fullShare a4 ∗ owns (c : Thread nD τ) arg5 fullShare a5 ∗ owns (c : Thread nD τ) arg6 fullShare a6
          ∗ owns (c : Thread nD τ) arg7 fullShare (putBlock i a7 (bestVals (k0_pay21 x1 a4 a5 a6) i))
          ∗ owns (c : Thread nD τ) arg8 fullShare (putBlock i a8 (bestIdxs (k0_pay21 x1 a4 a5 a6) i))) -∗ K ⟨⟩))
      ⊢ wp frame (wpE (defs₀ (F := F)) 𝒱₀ (c : Thread nD τ) none) E
          (cc0__score_topk_body i arg1 harg1 arg2 harg2 arg3 harg3 arg4 harg4 arg5 harg5 arg6 harg6 arg7 harg7 arg8 harg8) K := by
  simp only [cc0__score_topk_body_eq_skeleton]; unfold cc0__score_topk_body_skel
  simp only [k0_part2_eq_skeleton, k0_part3_eq_skeleton]
  unfold owns
  iintro ⟨⟨%f0, %hf0, H0⟩, ⟨%f1, %hf1, H1⟩, ⟨%f2, %hf2, H2⟩, ⟨%fs0, %hs0, HS0⟩, ⟨%fs1, %hs1, HS1⟩, ⟨%fs2, %hs2, HS2⟩, ⟨%fs3, %hs3, HS3⟩, ⟨%fs4, %hs4, HS4⟩, Hk⟩
  sl_exec (disch := first | sl_exact hc0 | sl_exact hc1)
  sl_step
  iapply Hk
  isplitl [H0]
  · iexists _; isplitr
    swap; · iexact H0
    ipureintro
    exact hf0
  isplitl [H1]
  · iexists _; isplitr
    swap; · iexact H1
    ipureintro
    exact hf1
  isplitl [H2]
  · iexists _; isplitr
    swap; · iexact H2
    ipureintro
    exact hf2
  isplitl [HS0]
  · iexists _; isplitr
    swap; · iexact HS0
    ipureintro
    exact hs0
  isplitl [HS1]
  · iexists _; isplitr
    swap; · iexact HS1
    ipureintro
    exact hs1
  isplitl [HS2]
  · iexists _; isplitr
    swap; · iexact HS2
    ipureintro
    exact hs2
  isplitl [HS3]
  · iexists _; isplitr
    swap; · iexact HS3
    ipureintro
    rw [read_block, hs3]; unfold run_mid.sl.r_1 run_mid.sl.r_3 run_mid.sl.r_5 run_mid.sl.r_7 run_mid.sl.r run_mid.sl.v35; rw [(readAt_all _ _ _ f1).trans hf1, (readAt_all _ _ _ fs0).trans hs0, (readAt_all _ _ _ fs1).trans hs1, (readAt_all _ _ _ fs2).trans hs2]; rfl
  iexists _; isplitr
  swap; · iexact HS4
  ipureintro
  rw [read_block, hs4]; unfold run_mid.sl.r_2 run_mid.sl.r_4 run_mid.sl.r_6 run_mid.sl.r_8 run_mid.sl.r run_mid.sl.v35; rw [(readAt_all _ _ _ f1).trans hf1, (readAt_all _ _ _ fs0).trans hs0, (readAt_all _ _ _ fs1).trans hs1, (readAt_all _ _ _ fs2).trans hs2]; rfl

end

end Cert.KernelIdeal.Run
end
-- ==== Proof.IdealRun.TcFirst.lean ====
/-
  The scoring kernel's body, run once at a symbolic point: at point 0 it prepares the queries, at every point it stores its block's candidates, at the last point it merges them.
-/
module

public import proofs.«01_k».proof.Proof.IdealRun.TcStore

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Pipeline (Dat Cfg Window BodyObligation cellOf)

variable {F : FTy → Type} [FloatOps F]

local notation "𝕄" => MT nD τ sig (HIx 1) (Elt F) ℕ UU ℕ
section
variable (c : Dev nD) (i : grid0.Coords)
  (arg1 : Memref sig .tc .vmem S1024x768 .f32) (harg1 : arg1.IsWhole) (arg2 : Memref sig .tc .vmem S512x768 .f32) (harg2 : arg2.IsWhole)
  (arg3 : Memref sig .tc .vmem S8x1024 .i32) (harg3 : arg3.IsWhole) (arg4 : Memref sig .tc .vmem S1024x768 .bf16) (harg4 : arg4.IsWhole)
  (arg5 : Memref sig .tc .vmem S1024x768 .bf16) (harg5 : arg5.IsWhole) (arg6 : Memref sig .tc .vmem S1024x768 .bf16) (harg6 : arg6.IsWhole)
  (arg7 : Memref sig .tc .vmem S16x8x1024 .f32) (harg7 : arg7.IsWhole) (arg8 : Memref sig .tc .vmem S16x8x1024 .i32) (harg8 : arg8.IsWhole)
  (x0 : Vec F S1024x768 .f32) (x1 : Vec F S512x768 .f32) (q3 : Vec F S8x1024 .i32)
  (a4 a5 a6 : Vec F S1024x768 .bf16) (a7 : Vec F S16x8x1024 .f32) (a8 : Vec F S16x8x1024 .i32)

set_option maxHeartbeats 1600000 in
/-- The body at the first point, which prepares the queries' three summands. -/
theorem run_first (hc0 : isFirst i) (hc1 : ¬ isLast i) (E : Set ℕ) (K : PUnit.{1} → sProp 𝕄) :
    iprop(owns (c : Thread nD τ) arg1 fullShare x0 ∗ owns (c : Thread nD τ) arg2 fullShare x1 ∗ owns (c : Thread nD τ) arg3 fullShare q3
        ∗ owns (c : Thread nD τ) arg4 fullShare a4 ∗ owns (c : Thread nD τ) arg5 fullShare a5 ∗ owns (c : Thread nD τ) arg6 fullShare a6
        ∗ owns (c : Thread nD τ) arg7 fullShare a7 ∗ owns (c : Thread nD τ) arg8 fullShare a8
        ∗ (iprop(owns (c : Thread nD τ) arg1 fullShare x0 ∗ owns (c : Thread nD τ) arg2 fullShare x1 ∗ owns (c : Thread nD τ) arg3 fullShare q3
          ∗ owns (c : Thread nD τ) arg4 fullShare (k0_pay18 x0) ∗ owns (c : Thread nD τ) arg5 fullShare (k0_pay19 x0) ∗ owns (c : Thread nD τ) arg6 fullShare (k0_pay20 x0)
          ∗ owns (c : Thread nD τ) arg7 fullShare (putBlock i a7 (bestVals (dist x0 x1) i))
          ∗ owns (c : Thread nD τ) arg8 fullShare (putBlock i a8 (bestIdxs (dist x0 x1) i))) -∗ K ⟨⟩))
      ⊢ wp frame (wpE (defs₀ (F := F)) 𝒱₀ (c : Thread nD τ) none) E
          (cc0__score_topk_body i arg1 harg1 arg2 harg2 arg3 harg3 arg4 harg4 arg5 harg5 arg6 harg6 arg7 harg7 arg8 harg8) K := by
  simp only [cc0__score_topk_body_eq_skeleton]; unfold cc0__score_topk_body_skel
  simp only [k0_part2_eq_skeleton, k0_part3_eq_skeleton]
  unfold owns
  iintro ⟨⟨%f0, %hf0, H0⟩, ⟨%f1, %hf1, H1⟩, ⟨%f2, %hf2, H2⟩, ⟨%fs0, %hs0, HS0⟩, ⟨%fs1, %hs1, HS1⟩, ⟨%fs2, %hs2, HS2⟩, ⟨%fs3, %hs3, HS3⟩, ⟨%fs4, %hs4, HS4⟩, Hk⟩
  sl_exec (disch := first | sl_exact hc0 | sl_exact hc1)
  sl_step
  iapply Hk
  isplitl [H0]
  · iexists _; isplitr
    swap; · iexact H0
    ipureintro
    exact hf0
  isplitl [H1]
  · iexists _; isplitr
    swap; · iexact H1
    ipureintro
    exact hf1
  isplitl [H2]
  · iexists _; isplitr
    swap; · iexact H2
    ipureintro
    exact hf2
  isplitl [HS0]
  · iexists _; isplitr
    swap; · iexact HS0
    ipureintro
    unfold run_first.sl.HS0_1; rw [read_stored, (readAt_all _ _ _ f0).trans hf0]
  isplitl [HS1]
  · iexists _; isplitr
    swap; · iexact HS1
    ipureintro
    unfold run_first.sl.HS1_1; rw [read_stored, (readAt_all _ _ _ f0).trans hf0]
  isplitl [HS2]
  · iexists _; isplitr
    swap; · iexact HS2
    ipureintro
    unfold run_first.sl.HS2_1; rw [read_stored, (readAt_all _ _ _ f0).trans hf0]
  isplitl [HS3]
  · iexists _; isplitr
    swap; · iexact HS3
    ipureintro
    rw [read_block, hs3]; unfold run_first.sl.r_1 run_first.sl.r_3 run_first.sl.r_5 run_first.sl.r_7 run_first.sl.r run_first.sl.v35 run_first.sl.v19 run_first.sl.v20 run_first.sl.v21 run_first.sl.HS0_1 run_first.sl.HS1_1 run_first.sl.HS2_1; rw [(readAt_all _ _ _ f1).trans hf1, readCov_stored, readCov_stored, readCov_stored, (readAt_all _ _ _ f0).trans hf0]; rfl
  iexists _; isplitr
  swap; · iexact HS4
  ipureintro
  rw [read_block, hs4]; unfold run_first.sl.r_2 run_first.sl.r_4 run_first.sl.r_6 run_first.sl.r_8 run_first.sl.r run_first.sl.v35 run_first.sl.v19 run_first.sl.v20 run_first.sl.v21 run_first.sl.HS0_1 run_first.sl.HS1_1 run_first.sl.HS2_1; rw [(readAt_all _ _ _ f1).trans hf1, readCov_stored, readCov_stored, readCov_stored, (readAt_all _ _ _ f0).trans hf0]; rfl

end

end Cert.KernelIdeal.Run
end
-- ==== Proof.IdealRun.TcLast.lean ====
/-
  The scoring kernel's body, run once at a symbolic point: at point 0 it prepares the queries, at every point it stores its block's candidates, at the last point it merges them.
-/
module

public import proofs.«01_k».proof.Proof.IdealRun.TcStore

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Pipeline (Dat Cfg Window BodyObligation cellOf)

variable {F : FTy → Type} [FloatOps F]

local notation "𝕄" => MT nD τ sig (HIx 1) (Elt F) ℕ UU ℕ
section
variable (c : Dev nD) (i : grid0.Coords)
  (arg1 : Memref sig .tc .vmem S1024x768 .f32) (harg1 : arg1.IsWhole) (arg2 : Memref sig .tc .vmem S512x768 .f32) (harg2 : arg2.IsWhole)
  (arg3 : Memref sig .tc .vmem S8x1024 .i32) (harg3 : arg3.IsWhole) (arg4 : Memref sig .tc .vmem S1024x768 .bf16) (harg4 : arg4.IsWhole)
  (arg5 : Memref sig .tc .vmem S1024x768 .bf16) (harg5 : arg5.IsWhole) (arg6 : Memref sig .tc .vmem S1024x768 .bf16) (harg6 : arg6.IsWhole)
  (arg7 : Memref sig .tc .vmem S16x8x1024 .f32) (harg7 : arg7.IsWhole) (arg8 : Memref sig .tc .vmem S16x8x1024 .i32) (harg8 : arg8.IsWhole)
  (x0 : Vec F S1024x768 .f32) (x1 : Vec F S512x768 .f32) (q3 : Vec F S8x1024 .i32)
  (a4 a5 a6 : Vec F S1024x768 .bf16) (a7 : Vec F S16x8x1024 .f32) (a8 : Vec F S16x8x1024 .i32)

set_option maxHeartbeats 1600000 in
/-- The body at the last point, which also merges the candidates. -/
theorem run_last (hc0 : ¬ isFirst i) (hc1 : isLast i) (E : Set ℕ) (K : PUnit.{1} → sProp 𝕄) :
    iprop(owns (c : Thread nD τ) arg1 fullShare x0 ∗ owns (c : Thread nD τ) arg2 fullShare x1 ∗ owns (c : Thread nD τ) arg3 fullShare q3
        ∗ owns (c : Thread nD τ) arg4 fullShare a4 ∗ owns (c : Thread nD τ) arg5 fullShare a5 ∗ owns (c : Thread nD τ) arg6 fullShare a6
        ∗ owns (c : Thread nD τ) arg7 fullShare a7 ∗ owns (c : Thread nD τ) arg8 fullShare a8
        ∗ (iprop(owns (c : Thread nD τ) arg1 fullShare x0 ∗ owns (c : Thread nD τ) arg2 fullShare x1 ∗ owns (c : Thread nD τ) arg3 fullShare (pick (putBlock i a7 (bestVals (k0_pay21 x1 a4 a5 a6) i)) (putBlock i a8 (bestIdxs (k0_pay21 x1 a4 a5 a6) i)))
          ∗ owns (c : Thread nD τ) arg4 fullShare a4 ∗ owns (c : Thread nD τ) arg5 fullShare a5 ∗ owns (c : Thread nD τ) arg6 fullShare a6
          ∗ owns (c : Thread nD τ) arg7 fullShare (putBlock i a7 (bestVals (k0_pay21 x1 a4 a5 a6) i))
          ∗ owns (c : Thread nD τ) arg8 fullShare (putBlock i a8 (bestIdxs (k0_pay21 x1 a4 a5 a6) i))) -∗ K ⟨⟩))
      ⊢ wp frame (wpE (defs₀ (F := F)) 𝒱₀ (c : Thread nD τ) none) E
          (cc0__score_topk_body i arg1 harg1 arg2 harg2 arg3 harg3 arg4 harg4 arg5 harg5 arg6 harg6 arg7 harg7 arg8 harg8) K := by
  simp only [cc0__score_topk_body_eq_skeleton]; unfold cc0__score_topk_body_skel
  simp only [k0_part2_eq_skeleton, k0_part3_eq_skeleton, k0_part1_eq_skeleton]
  unfold owns
  iintro ⟨⟨%f0, %hf0, H0⟩, ⟨%f1, %hf1, H1⟩, ⟨%f2, %hf2, H2⟩, ⟨%fs0, %hs0, HS0⟩, ⟨%fs1, %hs1, HS1⟩, ⟨%fs2, %hs2, HS2⟩, ⟨%fs3, %hs3, HS3⟩, ⟨%fs4, %hs4, HS4⟩, Hk⟩
  sl_exec (disch := first | sl_exact hc0 | sl_exact hc1)
  sl_step
  have e7 : View.read (Elt F) arg7.view (arg7.view.writes (Elt F) fs3 (run_last.sl.HS3_1 c i arg2 arg4 arg5 arg6 f1 fs0 fs1 fs2)) =
      putBlock i a7 (bestVals (k0_pay21 x1 a4 a5 a6) i) := by
    unfold run_last.sl.HS3_1; rw [read_block, hs3]; unfold run_last.sl.r_1 run_last.sl.r_3 run_last.sl.r_5 run_last.sl.r_7 run_last.sl.r run_last.sl.v35; rw [(readAt_all _ _ _ f1).trans hf1, (readAt_all _ _ _ fs0).trans hs0, (readAt_all _ _ _ fs1).trans hs1, (readAt_all _ _ _ fs2).trans hs2]; rfl
  have e8 : View.read (Elt F) arg8.view (arg8.view.writes (Elt F) fs4 (run_last.sl.HS4_1 c i arg2 arg4 arg5 arg6 f1 fs0 fs1 fs2)) =
      putBlock i a8 (bestIdxs (k0_pay21 x1 a4 a5 a6) i) := by
    unfold run_last.sl.HS4_1; rw [read_block, hs4]; unfold run_last.sl.r_2 run_last.sl.r_4 run_last.sl.r_6 run_last.sl.r_8 run_last.sl.r run_last.sl.v35; rw [(readAt_all _ _ _ f1).trans hf1, (readAt_all _ _ _ fs0).trans hs0, (readAt_all _ _ _ fs1).trans hs1, (readAt_all _ _ _ fs2).trans hs2]; rfl
  iapply Hk
  isplitl [H0]
  · iexists _; isplitr
    swap; · iexact H0
    ipureintro
    exact hf0
  isplitl [H1]
  · iexists _; isplitr
    swap; · iexact H1
    ipureintro
    exact hf1
  isplitl [H2]
  · iexists _; isplitr
    swap; · iexact H2
    ipureintro
    rw [read_stored]; unfold run_last.sl.r_9 run_last.sl.r_10 run_last.sl.r_11 run_last.sl.r_12 run_last.sl.r_13 run_last.sl.r_14 run_last.sl.v100 run_last.sl.v102; rw [(readAt_all _ _ _ _).trans e7, (readAt_all _ _ _ _).trans e8]; rfl
  isplitl [HS0]
  · iexists _; isplitr
    swap; · iexact HS0
    ipureintro
    exact hs0
  isplitl [HS1]
  · iexists _; isplitr
    swap; · iexact HS1
    ipureintro
    exact hs1
  isplitl [HS2]
  · iexists _; isplitr
    swap; · iexact HS2
    ipureintro
    exact hs2
  isplitl [HS3]
  · iexists _; isplitr
    swap; · iexact HS3
    ipureintro
    exact e7
  iexists _; isplitr
  swap; · iexact HS4
  ipureintro
  exact e8

end

end Cert.KernelIdeal.Run
end
-- ==== Proof.IdealRun.TcDat.lean ====
/-
  The pipeline of the scoring kernel: what its scratch arrays hold before each point, its proof data, the body obligation, and what the result's array holds at the end.
-/
module

public import proofs.«01_k».proof.Proof.IdealRun.TcMid
public import proofs.«01_k».proof.Proof.IdealRun.TcFirst
public import proofs.«01_k».proof.Proof.IdealRun.TcLast
public import proofs.«01_k».proof.Proof.Gen.KernelIdeal.Points
public import Idealize.ShloMosaic.Lib.Pipeline.ValueKit.Geometry
public import Idealize.ShloMosaic.Lib.Pipeline.FrameBody

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Pipeline (Dat Cfg Window BodyObligation cellOf)

variable {F : FTy → Type} [FloatOps F]

local notation "𝕄" => MT nD τ sig (HIx 1) (Elt F) ℕ UU ℕ

section
variable (x : Vec F S1024x768 .f32) (keys : S8192x768.Idx → F .f32)

/-- What is known of the five scratch arrays before point `n`: the queries' summands once point 0 has run, and the candidates of every
    block before `n`. -/
def Known (n : ℕ) (a4 a5 a6 : Vec F S1024x768 .bf16) (a7 : Vec F S16x8x1024 .f32) (a8 : Vec F S16x8x1024 .i32) : Prop :=
  (0 < n → a4 = k0_pay18 x ∧ a5 = k0_pay19 x ∧ a6 = k0_pay20 x)
    ∧ ∀ y : S16x8x1024.Idx, (y 0).val < n → a7 y = candVals x keys y ∧ a8 y = candIdxs x keys y

theorem coords_zero (t : Fin cfg0.N) : (grid0.coords t 0).val = t.val := by
  have ht : t.val < 16 := Nat.lt_of_lt_of_eq t.isLt N_0
  have e0 : (grid0.coords t 0).val = t.val / 1 % 16 := Pipeline.Grid.coords_val t 0 (by decide) rfl
  omega

variable {x keys}

theorem Known.zero (a4 a5 a6 : Vec F S1024x768 .bf16) (a7 : Vec F S16x8x1024 .f32) (a8 : Vec F S16x8x1024 .i32) :
    Known x keys 0 a4 a5 a6 a7 a8 := ⟨fun h => absurd h (Nat.lt_irrefl 0), fun _ h => absurd h (Nat.not_lt_zero _)⟩

/-- A point's stores: its block's candidates join the others. -/
theorem Known.step {t : Fin cfg0.N} {a4 a5 a6 : Vec F S1024x768 .bf16} {a7 : Vec F S16x8x1024 .f32} {a8 : Vec F S16x8x1024 .i32}
    (h : Known x keys t.val a4 a5 a6 a7 a8) :
    Known x keys (t.val + 1) (k0_pay18 x) (k0_pay19 x) (k0_pay20 x) (putBlock (grid0.coords t) a7 (bestVals (dist x (kblk keys t)) (grid0.coords t)))
      (putBlock (grid0.coords t) a8 (bestIdxs (dist x (kblk keys t)) (grid0.coords t))) := by
  refine ⟨fun _ => ⟨rfl, rfl, rfl⟩, fun y hy => ?_⟩
  have hc := coords_zero t
  by_cases e : (y 0).val = t.val
  · have ht : ptOf (y 0) = t := Fin.ext e
    unfold putBlock candVals candIdxs
    rw [if_pos (e.trans hc.symm), if_pos (e.trans hc.symm), ht]
    exact ⟨rfl, rfl⟩
  · unfold putBlock
    rw [if_neg (fun h' => e (h'.trans hc)), if_neg (fun h' => e (h'.trans hc))]
    exact h.2 y (by omega)

/-- After the last point all candidates are known. -/
theorem Known.all {a4 a5 a6 : Vec F S1024x768 .bf16} {a7 : Vec F S16x8x1024 .f32} {a8 : Vec F S16x8x1024 .i32}
    (h : Known x keys 16 a4 a5 a6 a7 a8) : a7 = candVals x keys ∧ a8 = candIdxs x keys :=
  ⟨funext fun y => (h.2 y (y 0).isLt).1, funext fun y => (h.2 y (y 0).isLt).2⟩
end

section
variable (c : Dev nD) (V : (b : Ref sig .tc) → Buf (Elt F) ((c : Thread nD τ).loc b)) (O : CellTallies nD τ sig (HIx 1))

abbrev qryV : Vec F S1024x768 .f32 := V main_arg0
abbrev keyV : S8192x768.Idx → F .f32 := V main_arg1

/-- The five scratch arrays before point `n`. -/
def scratch (n : ℕ) : sProp 𝕄 :=
  iprop(∃ (a4 a5 a6 : Vec F S1024x768 .bf16) (a7 : Vec F S16x8x1024 .f32) (a8 : Vec F S16x8x1024 .i32),
    ⌜Known (qryV c V) (keyV c V) n a4 a5 a6 a7 a8⌝
      ∗ owns (c : Thread nD τ) (Memref.whole cc0_scratch0 : Memref sig .tc .vmem S1024x768 .bf16) fullShare a4
      ∗ owns (c : Thread nD τ) (Memref.whole cc0_scratch1 : Memref sig .tc .vmem S1024x768 .bf16) fullShare a5
      ∗ owns (c : Thread nD τ) (Memref.whole cc0_scratch2 : Memref sig .tc .vmem S1024x768 .bf16) fullShare a6
      ∗ owns (c : Thread nD τ) (Memref.whole cc0_scratch3 : Memref sig .tc .vmem S16x8x1024 .f32) fullShare a7
      ∗ owns (c : Thread nD τ) (Memref.whole cc0_scratch4 : Memref sig .tc .vmem S16x8x1024 .i32) fullShare a8)

/-- The pipeline's proof data: the arrays as found, the blocks as fetched, the result at the last point, and the scratch arrays' carried
    contents; the core owes `O` throughout. -/
def dat : Dat τ (Elt F) (HIx 1) ℕ UU ℕ cfg0 c where
  A w := V (Pipeline.arrRef spec0 w)
  after w t := match w with
    | ⟨0, _⟩ => qryV c V
    | ⟨1, _⟩ => kblk (keyV c V) t
    | ⟨2, _⟩ => chosen (qryV c V) (keyV c V)
  Φ t := scratch c V t.val
  q _ := fullShare
  owed _ := O
  recorded _ := {p | (KS F).lev ((c : Thread nD τ), p.1) p.2 ≤ 0}

/-- The queries' window reads the whole array. -/
theorem qry_block (t : Fin cfg0.N) (f : S1024x768.Idx → F .f32) : ((cfg0.win 0).blk t).view.read (Elt F) f = f := by
  funext y
  show f _ = f y
  congr 1
  funext a
  apply Fin.ext
  match a with
  | 0 => show 0 * 1024 + 1 * (y 0).val = (y 0).val; omega
  | 1 => show 0 * 768 + 1 * (y 1).val = (y 1).val; omega

theorem before_qry (t : Fin cfg0.N) (d) : (dat c V O).before 0 t d = qryV c V := by
  refine ((dat c V O).before_in_eq_fetched 0 rfl (fun _ => rfl) (fun _ _ _ => rfl) (fun t => ?_) t d).trans ?_
  · exact (qry_block t (qryV c V)).symm
  · exact qry_block t (qryV c V)

theorem before_key (t : Fin cfg0.N) (d) : (dat c V O).before 1 t d = kblk (keyV c V) t :=
  (dat c V O).before_in_eq_fetched 1 rfl (fun _ => rfl) (fun _ _ _ => rfl) (fun t => rfl) t d

theorem body_row (t : Fin cfg0.N) : defs₀ (F := F) .tc cfg0.body (cfg0.bodyArgs t (cfg0.slots t)) = bodyAt0 t := rfl

/-- Window 2 is idle except at the last point. -/
theorem idle_out (t : Fin cfg0.N) (h : t.val ≠ 15) : idle0 2 (grid0.coords t) = true := by
  have h' : ¬ (k0_cond2 (grid0.coords t) = 1#1) := fun h' => h ((isLast_iff t).mp h')
  show (!(k0_cond2 (grid0.coords t) == 1#1)) = true
  simp [h']
theorem live_out (t : Fin cfg0.N) (h : t.val = 15) : idle0 2 (grid0.coords t) = false := by
  have h' : k0_cond2 (grid0.coords t) = 1#1 := (isLast_iff t).mpr h
  show (!(k0_cond2 (grid0.coords t) == 1#1)) = false
  simp [h']
theorem noflush_out (t : Fin cfg0.N) (h : t.val ≠ 15) : (win0 2).flush t = false := by
  have ht : t.val < 16 := Nat.lt_of_lt_of_eq t.isLt N_0
  rw [← Bool.not_eq_true]
  intro h'
  have := (flush0_2 t).mp h'
  omega

theorem body_obligation : BodyObligation (dat c V O) (defs₀ (F := F)) 𝒱₀ (none : HIx 1) Set.univ := fun t => by
  rw [bigSep_W0, bigSep_W0, body_row]
  have ht : t.val < 16 := Nat.lt_of_lt_of_eq t.isLt N_0
  have hΦ : (dat c V O).Φ t.castSucc = scratch c V t.val := rfl
  have hΦ' : (dat c V O).Φ t.succ = scratch c V (t.val + 1) := rfl
  have ho : (dat c V O).owesAt none t.succ = (dat c V O).owesAt none t.castSucc := rfl
  rw [hΦ, hΦ', ho]
  dsimp only
  have hA0 : (dat c V O).after 0 t = qryV c V := rfl
  have hA1 : (dat c V O).after 1 t = kblk (keyV c V) t := rfl
  rw [hA0, hA1]
  unfold scratch
  iintro ⟨⟨%a4, %a5, %a6, %a7, %a8, %hk, HS0, HS1, HS2, HS3, HS4⟩, Ho, ⟨%d0, H0⟩, ⟨%d1, H1⟩, ⟨%d2, H2⟩⟩
  rw [before_qry, before_key]
  have hstep := hk.step
  by_cases h15 : t.val = 15
  · obtain ⟨rfl, rfl, rfl⟩ := hk.1 (by omega)
    have hall := (show Known (qryV c V) (keyV c V) 16 _ _ _ _ _ from (show t.val + 1 = 16 by omega) ▸ hstep).all
    have hA2 : (dat c V O).after 2 t = chosen (qryV c V) (keyV c V) := rfl
    rw [live_out t h15]
    dsimp only
    rw [hA2]
    iapply (run_last (F := F) c (grid0.coords t) _ _ _ _ _ _ _ _ _ _ _ _ _ _ _ _ (qryV c V) (kblk (keyV c V) t) ((dat c V O).before 2 t d2) (k0_pay18 (qryV c V)) (k0_pay19 (qryV c V)) (k0_pay20 (qryV c V)) a7 a8
      (fun h => by have := (isFirst_iff t).mp h; omega) ((isLast_iff t).mpr h15) Set.univ _)
    isplitl [H0]; · iexact H0
    isplitl [H1]; · iexact H1
    isplitl [H2]; · iexact H2
    isplitl [HS0]; · iexact HS0
    isplitl [HS1]; · iexact HS1
    isplitl [HS2]; · iexact HS2
    isplitl [HS3]; · iexact HS3
    isplitl [HS4]; · iexact HS4
    iintro ⟨H0, H1, H2, HS0, HS1, HS2, HS3, HS4⟩
    isplitl [HS0 HS1 HS2 HS3 HS4]
    · iexists _, _, _, _, _
      isplitr; · ipureintro; exact hstep
      isplitl [HS0]; · iexact HS0
      isplitl [HS1]; · iexact HS1
      isplitl [HS2]; · iexact HS2
      isplitl [HS3]; · iexact HS3
      iexact HS4
    isplitl [Ho]; · iexact Ho
    isplitl [H0]; · iexact H0
    isplitl [H1]; · iexact H1
    iapply (Entails.of_eq (congrArg (fun w => owns (c : Thread nD τ) ((cfg0.win 2).stage (cfg0.slots t 2)) fullShare w) (show pick _ _ = chosen _ _ by
      rw [show chosen (qryV c V) (keyV c V) = pick (candVals (qryV c V) (keyV c V)) (candIdxs (qryV c V) (keyV c V)) from rfl, ← hall.1, ← hall.2])))
    iexact H2
  · rw [idle_out t h15, noflush_out t h15]
    dsimp only
    by_cases h0 : t.val = 0
    · iapply (run_first (F := F) c (grid0.coords t) _ _ _ _ _ _ _ _ _ _ _ _ _ _ _ _ (qryV c V) (kblk (keyV c V) t) ((dat c V O).before 2 t d2) a4 a5 a6 a7 a8
        ((isFirst_iff t).mpr h0) (fun h => h15 ((isLast_iff t).mp h)) Set.univ _)
      isplitl [H0]; · iexact H0
      isplitl [H1]; · iexact H1
      isplitl [H2]; · iexact H2
      isplitl [HS0]; · iexact HS0
      isplitl [HS1]; · iexact HS1
      isplitl [HS2]; · iexact HS2
      isplitl [HS3]; · iexact HS3
      isplitl [HS4]; · iexact HS4
      iintro ⟨H0, H1, H2, HS0, HS1, HS2, HS3, HS4⟩
      isplitl [HS0 HS1 HS2 HS3 HS4]
      · iexists _, _, _, _, _
        isplitr; · ipureintro; exact hstep
        isplitl [HS0]; · iexact HS0
        isplitl [HS1]; · iexact HS1
        isplitl [HS2]; · iexact HS2
        isplitl [HS3]; · iexact HS3
        iexact HS4
      isplitl [Ho]; · iexact Ho
      isplitl [H0]; · iexact H0
      isplitl [H1]; · iexact H1
      iexists d2; iexact H2
    · obtain ⟨rfl, rfl, rfl⟩ := hk.1 (by omega)
      iapply (run_mid (F := F) c (grid0.coords t) _ _ _ _ _ _ _ _ _ _ _ _ _ _ _ _ (qryV c V) (kblk (keyV c V) t) ((dat c V O).before 2 t d2) (k0_pay18 (qryV c V)) (k0_pay19 (qryV c V)) (k0_pay20 (qryV c V)) a7 a8
        (fun h => h0 ((isFirst_iff t).mp h)) (fun h => h15 ((isLast_iff t).mp h)) Set.univ _)
      isplitl [H0]; · iexact H0
      isplitl [H1]; · iexact H1
      isplitl [H2]; · iexact H2
      isplitl [HS0]; · iexact HS0
      isplitl [HS1]; · iexact HS1
      isplitl [HS2]; · iexact HS2
      isplitl [HS3]; · iexact HS3
      isplitl [HS4]; · iexact HS4
      iintro ⟨H0, H1, H2, HS0, HS1, HS2, HS3, HS4⟩
      isplitl [HS0 HS1 HS2 HS3 HS4]
      · iexists _, _, _, _, _
        isplitr; · ipureintro; exact hstep
        isplitl [HS0]; · iexact HS0
        isplitl [HS1]; · iexact HS1
        isplitl [HS2]; · iexact HS2
        isplitl [HS3]; · iexact HS3
        iexact HS4
      isplitl [Ho]; · iexact Ho
      isplitl [H0]; · iexact H0
      isplitl [H1]; · iexact H1
      iexists d2; iexact H2

/-- What the region leaves in the result's array. -/
theorem final_out : (dat c V O).arrAt 2 cfg0.N = chosen (qryV c V) (keyV c V) := by
  refine (dat c V O).arrAt_eq_of_after_last 2 (ptOf 15) ?_ _ fun j => rfl
  unfold Pipeline.Window.WholeAt
  refine ⟨(flush0_2 _).mpr rfl, fun t ht => Fin.ext ?_, fun a => ?_⟩
  · have h := (flush0_2 t).mp ht
    have : t.val < 16 := Nat.lt_of_lt_of_eq t.isLt N_0
    show t.val = 15
    omega
  · match a with
    | 0 => exact ⟨rfl, rfl⟩
    | 1 => exact ⟨rfl, rfl⟩
end

end Cert.KernelIdeal.Run
end
-- ==== Proof.IdealRun.TcRegion.lean ====
/-
  The scoring kernel's region of @main: entered with every unscoped buffer of the TensorCore and its debt to the SparseCores, left with the result's array at its value.
-/
module

public import proofs.«01_k».proof.Proof.IdealRun.TcDat
public import Idealize.ShloMosaic.Lib.Pipeline.RegionsLoop

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Pipeline (Dat Cfg Window BodyObligation cellOf)

variable {F : FTy → Type} [FloatOps F]

local notation "𝕄" => MT nD τ sig (HIx 1) (Elt F) ℕ UU ℕ

/-- The pipeline has no prefetched table to fix. -/
abbrev adm : (p : Fin 1) → (pcfgs (F := F) p).Adm := fun p => (cfgs p).toPCfg_adm

/-- What the TensorCore of a device owes while the scoring kernel runs: the start signals of the gather to come. -/
abbrev owedTc (c : Dev nD) : CellTallies nD τ sig (HIx 1) := (KS F).Otc c 0

section
variable (V : (c : Dev nD) → (b : Ref sig .tc) → Buf (Elt F) ((c : Thread nD τ).loc b))

/-- The proof data of every pipeline (there is one). -/
def pdats : (p : Fin 1) → (c : Dev nD) → Dat τ (Elt F) (HIx 1) ℕ UU ℕ (Pipeline.pin (pcfgs (F := F)) adm p) c
  | ⟨0, _⟩ => fun c => dat c (V c) (owedTc (F := F) c)

theorem owedTc_none (c : Dev nD) (g : GSem nD τ sig) : owedTc (F := F) c g none = 0 := by
  by_contra h
  have := (KS F).lev_of_Otc_pos (Nat.pos_of_ne_zero h)
  rw [SparseCore.Cfg.lev_none] at this
  omega

/-- The core's debt with its recorded waits, all at the lowest level. -/
abbrev debtTc (c : Dev nD) : sProp 𝕄 :=
  iprop(∃ W, ⌜(KS F).WBelow (c : Thread nD τ) W 0⌝ ∗ owes (c : Thread nD τ) (owedTc (F := F) c) W)

/-- The arrays after the region: as before but for the result's. -/
def afterTc (c : Dev nD) (b : Ref sig .tc) : Buf (Elt F) ((c : Thread nD τ).loc b) :=
  if h : main_v0 = b then h ▸ chosen (qryV c (V c)) (keyV c (V c)) else V c b

theorem afterTc_out (c : Dev nD) : afterTc V c main_v0 = chosen (qryV c (V c)) (keyV c (V c)) := by
  unfold afterTc; rw [dif_pos rfl]
theorem afterTc_ne (c : Dev nD) (b : Ref sig .tc) (h : b ≠ main_v0) : afterTc V c b = V c b := by
  unfold afterTc; rw [dif_neg fun e => h e.symm]

set_option backward.isDefEq.respectTransparency.types false in
/-- The scoring kernel's region of @main. -/
def region : Pipeline.RegionSeg (pcfgs (F := F)) adm (pdats V) (none : HIx 1) defs₀ 𝒱₀ (KS F).L (KS F).lev 0 where
  win := launch0.win.to₀
  block_pos := launch0.block_pos
  stage_whole := launch0.stage_whole
  K := PEmpty
  osem k := k.elim
  ho := Pipeline.OwnSemFacts.none _
  hbody c := (body_obligation c (V c) (owedTc (F := F) c)).loose
  hwaits c := Pipeline.cellsWaits_intro _ _ _ 0 c fun w s t => (KS F).mayWait_none _ (owedTc_none c)
  pre c := iprop(unscopedBufs c (V c) ∗ debtTc (F := F) c)
  post c := iprop(unscopedBufs c (afterTc V c) ∗ debtTc (F := F) c)
  X _ := BI.emp
  Y _ := BI.emp
  Z c := iprop(Pipeline.unscopedRest (Ix := HIx 1) (Name := ℕ) (U := UU) (Lvl := ℕ) spec0 c (V c))
  hentry c := by
    rw [Pipeline.ownSems0_none]
    have hsplit := Pipeline.arrays_of_unscopedBufs (p := 0) (pcfgs (F := F)) adm (pdats V) launch0.win launch0.arr_whole c
      ((pdats V 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats V 0 c).Φ 0 = scratch c (V c) 0 from rfl]
    iintro ⟨-, -, Hr⟩
    ihave Hr := (Entails.of_eq (scopedRest0_eq c)) $$ Hr
    icases Hr with ⟨⟨%f0, H0⟩, ⟨%f1, H1⟩, ⟨%f2, H2⟩, ⟨%f3, H3⟩, ⟨%f4, H4⟩⟩
    unfold scratch
    iexists f0, f1, f2, f3, f4
    isplitr; · ipureintro; exact Known.zero _ _ _ _ _
    simp only [owns_whole]
    isplitl [H0]; · iexact H0
    isplitl [H1]; · iexact H1
    isplitl [H2]; · iexact H2
    isplitl [H3]; · iexact H3
    iexact H4
  hout c := by
    rw [Pipeline.ownSems0_none, show (pdats V 0 c).Φ (Fin.last _) = scratch c (V c) cfg0.N from rfl]
    unfold scratch
    simp only [owns_whole]
    iintro ⟨%f0, %f1, %f2, %f3, %f4, -, H0, H1, H2, H3, H4⟩
    isplitr; · iempintro
    isplitr; · iempintro
    iapply (Entails.of_eq (scopedRest0_eq c).symm)
    isplitl [H0]; · iexists _; iexact H0
    isplitl [H1]; · iexists _; iexact H1
    isplitl [H2]; · iexists _; iexact H2
    isplitl [H3]; · iexists _; iexact H3
    iexists _; iexact H4
  hexit c := by
    have hjoin := Pipeline.unscopedBufs_of_arrays (p := 0) (pcfgs (F := F)) adm (Ix := HIx 1) (Name := ℕ) (U := UU) (Lvl := ℕ) launch0.win launch0.arr_whole c
      (pdats V) ((pdats V 0 c).share_full fun _ => rfl) (V c) (afterTc V c) ((pdats V 0 c).arrAt · cfg0.N)
      (fun w => by
        fin_cases w
        · exact ((pdats V 0 c).arrAt_in 0 rfl _).trans (afterTc_ne V c main_arg0 (by decide)).symm
        · exact ((pdats V 0 c).arrAt_in 1 rfl _).trans (afterTc_ne V c main_arg1 (by decide)).symm
        · exact (final_out c (V c) _).trans (afterTc_out V c).symm)
      (fun b hb => afterTc_ne V c b fun h => hb (h ▸ Finset.mem_image.mpr ⟨2, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W
    isplitr
    · ipureintro
      intro p hp
      rcases hW hp with h | ⟨w, s, rfl⟩
      · exact h
      · exact Nat.le_refl 0
    iexact HO
end

end Cert.KernelIdeal.Run
end
-- ==== Proof.IdealRun.Pick.lean ====
/-
  One selection round over the rows of an array, as the scoring kernel makes it: the greatest value of every column, the least index that holds it, and the rows of that index masked.
-/
module

public import proofs.«01_k».proof.Proof.IdealRun.Score
public import Idealize.ShloMosaic.Lib.Pipeline.Value
public import Idealize.ShloMosaic.PureOps.Reduce

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Pipeline (Dat Cfg Window BodyObligation cellOf)

variable {F : FTy → Type} [FloatOps F]

local notation "𝕄" => MT nD τ sig (HIx 1) (Elt F) ℕ UU ℕ

variable {n : ℕ}

/-- `n` rows of 1024 columns. -/
abbrev Rows (n : ℕ) : Shape := ⟨2, ![n, 1024]⟩

/-! ## One selection round over the rows of an array -/

/-- The greatest value of each column. -/
def colMax (hr : (Rows n).Reduces [0] S1024) (v : FVec F (Rows n) .f32) : FVec F S1x1024 .f32 :=
  shapeCast S1x1024 (multiReduction .maximumf [0] S1024 v 0xFF800000#32 hr (.inl rfl) rfl) shapeCasts_S1024_S1x1024

/-- The least index among the rows that hold the greatest value of their column. -/
def pickIdx (hr : (Rows n).Reduces [0] S1024) (hb : S1x1024.Broadcasts (Rows n)) (ix : IVec (Rows n) 32) (v : FVec F (Rows n) .f32) : IVec S1x1024 32 :=
  shapeCast S1x1024 (multiReductionI .minsi [0] S1024
    (select (cmpf .oeq v (broadcastTo (Rows n) (colMax hr v) hb)) ix (broadcast (Rows n) 1073741824#32)) 2147483647#32 hr rfl) shapeCasts_S1024_S1x1024

/-- The round's selection masked: rows of that index fall to minus infinity. -/
def dropPicked (hr : (Rows n).Reduces [0] S1024) (hb : S1x1024.Broadcasts (Rows n)) (ix : IVec (Rows n) 32) (v : FVec F (Rows n) .f32) : FVec F (Rows n) .f32 :=
  select (cmpi .eq ix (broadcastTo (Rows n) (pickIdx hr hb ix v) hb)) (broadcast (Rows n) (Scalar.ofBits .f32 0xFF800000#32)) v

theorem cast_row {α : Type} (x : S1024.Idx → α) (h : S1024.ShapeCasts S1x1024) (c : Fin 1024) : shapeCast S1x1024 x h (ix2 0 c) = x (ix1 c) :=
  shapeCast_a_1a_apply x h 0 c

theorem lift_row (hr : (Rows n).Reduces [0] S1024) (c : Fin 1024) (r : Fin n) : hr.lift (ix1 c) r = ix2 r c := by
  funext a
  match a with
  | ⟨0, _⟩ => exact Fin.ext rfl
  | ⟨1, _⟩ => exact Fin.ext rfl

theorem pickIdx_apply (hr : (Rows n).Reduces [0] S1024) (hb : S1x1024.Broadcasts (Rows n)) (ix : IVec (Rows n) 32) (v : FVec F (Rows n) .f32) (c : Fin 1024) :
    pickIdx hr hb ix v (ix2 0 c) = (Finset.univ : Finset (Fin n)).fold IntOp.minsi 2147483647#32
      fun r => Scalar.select (FloatOps.cmpf .oeq (v (ix2 r c)) (colMax hr v (ix2 0 c))) (ix (ix2 r c)) 1073741824#32 := by
  unfold pickIdx
  classical
  refine (cast_row _ _ c).trans ((multiReductionI_eq_fold .minsi _ _ hr rfl (ix1 c)).trans ?_)
  refine (hr.fold_filter_drop_single _ _ _ _).trans ?_
  refine Finset.fold_congr fun (r : Fin n) _ => ?_
  refine (congrArg (select (cmpf .oeq v (broadcastTo (Rows n) (colMax hr v) hb)) ix (broadcast (Rows n) 1073741824#32)) (lift_row hr c r)).trans ?_
  show Scalar.select (FloatOps.cmpf .oeq (v (ix2 r c)) (broadcastTo (Rows n) (colMax hr v) hb (ix2 r c))) _ _ = _
  rw [broadcastTo_1b_ab_apply]
  rfl

theorem dropPicked_apply (hr : (Rows n).Reduces [0] S1024) (hb : S1x1024.Broadcasts (Rows n)) (ix : IVec (Rows n) 32) (v : FVec F (Rows n) .f32) (r : Fin n) (c : Fin 1024) :
    dropPicked hr hb ix v (ix2 r c) = Scalar.select (IntOp.cmpi .eq (ix (ix2 r c)) (pickIdx hr hb ix v (ix2 0 c))) (FloatOps.ofBits .f32 0xFF800000#32) (v (ix2 r c)) := by
  unfold dropPicked
  rw [select_apply]
  show Scalar.select (IntOp.cmpi .eq (ix (ix2 r c)) (broadcastTo (Rows n) (pickIdx hr hb ix v) hb (ix2 r c))) _ _ = _
  rw [broadcastTo_1b_ab_apply]
  rfl

/-- A unit-row concatenation of rows, read at row `k`. -/
theorem rows_at {α : Type} {m : ℕ} (xs : List ((s : Shape) × (s.Idx → α))) (h : Shape.Concatenates (xs.map (·.1)) (Rows m) 0)
    (k : Fin m) (c : Fin 1024) (x : S1x1024.Idx → α) (hk : k.val < xs.length) (hx : xs[k.val] = ⟨S1x1024, x⟩)
    (hpre : (((xs.take k.val).map (·.1)).map fun s => if h : s.rank = (Rows m).rank then s.size ((0 : Fin 2).cast h.symm) else 0).sum = k.val) :
    concatenate (Rows m) 0 xs h (ix2 k c) = x (ix2 0 c) :=
  concatenate_apply_piece 0 xs h (ix2 k c) k.val hk S1x1024 x hx rfl k.val hpre (ix2 0 c)
    (fun b hb => by
      match b with
      | ⟨0, _⟩ => exact absurd rfl hb
      | ⟨1, _⟩ => rfl)
    rfl

theorem quad_row {α : Type} (a b c d : S1x1024.Idx → α) (h) (k : Fin 4) (j : Fin 1024) :
    concatenate S4x1024 0 [⟨S1x1024, a⟩, ⟨S1x1024, b⟩, ⟨S1x1024, c⟩, ⟨S1x1024, d⟩] h (ix2 k j) = (![a, b, c, d] k) (ix2 0 j) := by
  fin_cases k <;> exact rows_at (m := 4) _ _ _ _ _ (by simp) rfl rfl

theorem oct_row {α : Type} (a b c d e f g i : S1x1024.Idx → α) (h) (k : Fin 8) (j : Fin 1024) :
    concatenate S8x1024 0 [⟨S1x1024, a⟩, ⟨S1x1024, b⟩, ⟨S1x1024, c⟩, ⟨S1x1024, d⟩, ⟨S1x1024, e⟩, ⟨S1x1024, f⟩, ⟨S1x1024, g⟩, ⟨S1x1024, i⟩] h (ix2 k j)
      = (![a, b, c, d, e, f, g, i] k) (ix2 0 j) := by
  fin_cases k <;> exact rows_at (m := 8) _ _ _ _ _ (by simp) rfl rfl

/-- Four rows over four more, read in the upper half and in the lower. -/
theorem upper_half {α : Type} (x y : S4x1024.Idx → α) (h) (k : Fin 4) (c : Fin 1024) :
    concatenate S8x1024 0 [⟨S4x1024, x⟩, ⟨S4x1024, y⟩] h (ix2 ⟨k.val, by omega⟩ c) = x (ix2 k c) :=
  concatenate_apply_piece 0 _ h _ 0 (by simp) S4x1024 x rfl rfl 0 rfl (ix2 k c)
    (fun b hb => by
      match b with
      | ⟨0, _⟩ => exact absurd rfl hb
      | ⟨1, _⟩ => rfl)
    (by simp)
theorem lower_half {α : Type} (x y : S4x1024.Idx → α) (h) (k : Fin 4) (c : Fin 1024) :
    concatenate S8x1024 0 [⟨S4x1024, x⟩, ⟨S4x1024, y⟩] h (ix2 ⟨k.val + 4, by omega⟩ c) = y (ix2 k c) :=
  concatenate_apply_piece 0 _ h _ 1 (by simp) S4x1024 y rfl rfl 4 rfl (ix2 k c)
    (fun b hb => by
      match b with
      | ⟨0, _⟩ => exact absurd rfl hb
      | ⟨1, _⟩ => rfl)
    (Nat.add_comm 4 k.val)

theorem cast_block {α : Type} (x : S8x1024.Idx → α) (h : S8x1024.ShapeCasts S1x8x1024) (k : Fin 8) (c : Fin 1024) :
    shapeCast S1x8x1024 x h (ix3 0 k c) = x (ix2 k c) :=
  shapeCast_ab_1ab_apply x h 0 k c

/-! ## A block's candidates -/

/-- The global row numbers of block `i`'s keys. -/
abbrev rowIdx (i : grid0.Coords) : IVec S512x1024 32 := k0_pay23 rowNo (k0_pay22 i)

/-- A block's scores after `k` rounds. -/
def left (s : FVec F S512x1024 .f32) (i : grid0.Coords) (k : ℕ) : FVec F S512x1024 .f32 :=
  (dropPicked (n := 512) reduces_S512x1024_S1024 broadcasts_S1x1024_S512x1024 (rowIdx i))^[k] s

theorem quad_of {α : Type} (a b c d : S1x1024.Idx → α) (g : ℕ → S1x1024.Idx → α) (h0 : a = g 0) (h1 : b = g 1) (h2 : c = g 2) (h3 : d = g 3)
    (k : Fin 4) (j : S1x1024.Idx) : (![a, b, c, d] k) j = g k.val j := by
  subst h0 h1 h2 h3
  fin_cases k <;> rfl

theorem left_succ (s : FVec F S512x1024 .f32) (i : grid0.Coords) (k : ℕ) :
    left s i (k + 1) = dropPicked (n := 512) reduces_S512x1024_S1024 broadcasts_S1x1024_S512x1024 (rowIdx i) (left s i k) :=
  Function.iterate_succ_apply' _ k s
theorem left_one (s : FVec F S512x1024 .f32) (i : grid0.Coords) : left s i 1 = k0_pay26 s rowNo (k0_pay22 i) := (left_succ s i 0).trans rfl
theorem left_two (s : FVec F S512x1024 .f32) (i : grid0.Coords) : left s i 2 = k0_pay29 s rowNo (k0_pay22 i) := by
  rw [left_succ, left_one]; rfl
theorem left_three (s : FVec F S512x1024 .f32) (i : grid0.Coords) : left s i 3 = k0_pay32 s rowNo (k0_pay22 i) := by
  rw [left_succ, left_two]; rfl

theorem bestVals_row (s : FVec F S512x1024 .f32) (i : grid0.Coords) (k : Fin 4) (c : Fin 1024) :
    bestVals s i (ix3 0 ⟨k.val, by omega⟩ c) = colMax (n := 512) reduces_S512x1024_S1024 (left s i k.val) (ix2 0 c) := by
  unfold bestVals k0_pay1
  rw [cast_block, upper_half, quad_row]
  exact quad_of _ _ _ _ (fun n => colMax (n := 512) reduces_S512x1024_S1024 (left s i n)) rfl (by rw [left_one]; rfl) (by rw [left_two]; rfl) (by rw [left_three]; rfl) k (ix2 0 c)

theorem bestVals_pad (s : FVec F S512x1024 .f32) (i : grid0.Coords) (k : Fin 4) (c : Fin 1024) :
    bestVals s i (ix3 0 ⟨k.val + 4, by omega⟩ c) = FloatOps.ofBits .f32 0xFF800000#32 := by
  unfold bestVals k0_pay1
  rw [cast_block, lower_half]
  rfl

theorem bestIdxs_row (s : FVec F S512x1024 .f32) (i : grid0.Coords) (k : Fin 4) (c : Fin 1024) :
    bestIdxs s i (ix3 0 ⟨k.val, by omega⟩ c) = pickIdx (n := 512) reduces_S512x1024_S1024 broadcasts_S1x1024_S512x1024 (rowIdx i) (left s i k.val) (ix2 0 c) := by
  unfold bestIdxs k0_pay2
  rw [cast_block, upper_half, quad_row]
  exact quad_of _ _ _ _ (fun n => pickIdx (n := 512) reduces_S512x1024_S1024 broadcasts_S1x1024_S512x1024 (rowIdx i) (left s i n)) rfl (by rw [left_one]; rfl) (by rw [left_two]; rfl) (by rw [left_three]; rfl) k (ix2 0 c)

theorem bestIdxs_pad (s : FVec F S512x1024 .f32) (i : grid0.Coords) (k : Fin 4) (c : Fin 1024) :
    bestIdxs s i (ix3 0 ⟨k.val + 4, by omega⟩ c) = 1073741824#32 := by
  unfold bestIdxs k0_pay2
  rw [cast_block, lower_half]
  rfl

/-! ## The merge -/

/-- All candidates' scores after `k` rounds. -/
def mergeLeft (v : Vec F S16x8x1024 .f32) (ix : Vec F S16x8x1024 .i32) (k : ℕ) : FVec F S128x1024 .f32 :=
  (dropPicked (n := 128) reduces_S128x1024_S1024 broadcasts_S1x1024_S128x1024 (k0_pay5 ix))^[k] (k0_pay4 v)

/-- The merge's selection of round `k`. -/
def mergePick (v : Vec F S16x8x1024 .f32) (ix : Vec F S16x8x1024 .i32) (k : ℕ) : IVec S1x1024 32 :=
  pickIdx (n := 128) reduces_S128x1024_S1024 broadcasts_S1x1024_S128x1024 (k0_pay5 ix) (mergeLeft v ix k)

theorem mergeLeft_succ (v : Vec F S16x8x1024 .f32) (ix : Vec F S16x8x1024 .i32) (k : ℕ) :
    mergeLeft v ix (k + 1) = dropPicked (n := 128) reduces_S128x1024_S1024 broadcasts_S1x1024_S128x1024 (k0_pay5 ix) (mergeLeft v ix k) :=
  Function.iterate_succ_apply' _ k (k0_pay4 v)
theorem mergeLeft_one (v : Vec F S16x8x1024 .f32) (ix : Vec F S16x8x1024 .i32) : mergeLeft v ix 1 = k0_pay7 v ix := (mergeLeft_succ v ix 0).trans rfl
theorem mergeLeft_two (v : Vec F S16x8x1024 .f32) (ix : Vec F S16x8x1024 .i32) : mergeLeft v ix 2 = k0_pay11 v ix := by
  rw [mergeLeft_succ, mergeLeft_one]; rfl
theorem mergePick_zero (v : Vec F S16x8x1024 .f32) (ix : Vec F S16x8x1024 .i32) : mergePick v ix 0 = k0_pay6 v ix := rfl
theorem mergePick_one (v : Vec F S16x8x1024 .f32) (ix : Vec F S16x8x1024 .i32) : mergePick v ix 1 = k0_pay10 v ix := by
  unfold mergePick; rw [mergeLeft_one]; rfl

theorem pick_even (v : Vec F S16x8x1024 .f32) (ix : Vec F S16x8x1024 .i32) (k : Fin 4) (c : Fin 1024) :
    pick v ix (ix2 ⟨2 * k.val, by omega⟩ c) = IntOp.muli 2#32 (mergePick v ix k.val (ix2 0 c)) := by
  unfold pick k0_pay3
  rw [oct_row]
  match k with
  | ⟨0, _⟩ => show _ = IntOp.muli 2#32 (mergePick v ix 0 (ix2 0 c)); rw [mergePick_zero]; rfl
  | ⟨1, _⟩ => show _ = IntOp.muli 2#32 (mergePick v ix 1 (ix2 0 c)); rw [mergePick_one]; rfl
  | ⟨2, _⟩ => show _ = IntOp.muli 2#32 (mergePick v ix 2 (ix2 0 c)); unfold mergePick; rw [mergeLeft_two]; rfl
  | ⟨3, _⟩ => show _ = IntOp.muli 2#32 (mergePick v ix 3 (ix2 0 c)); unfold mergePick; rw [mergeLeft_succ, mergeLeft_two]; rfl

theorem pick_odd (v : Vec F S16x8x1024 .f32) (ix : Vec F S16x8x1024 .i32) (k : Fin 4) (c : Fin 1024) :
    pick v ix (ix2 ⟨2 * k.val + 1, by omega⟩ c) = IntOp.addi (IntOp.muli 2#32 (mergePick v ix k.val (ix2 0 c))) 1#32 := by
  unfold pick k0_pay3
  rw [oct_row]
  match k with
  | ⟨0, _⟩ => show _ = IntOp.addi (IntOp.muli 2#32 (mergePick v ix 0 (ix2 0 c))) 1#32; rw [mergePick_zero]; rfl
  | ⟨1, _⟩ => show _ = IntOp.addi (IntOp.muli 2#32 (mergePick v ix 1 (ix2 0 c))) 1#32; rw [mergePick_one]; rfl
  | ⟨2, _⟩ => show _ = IntOp.addi (IntOp.muli 2#32 (mergePick v ix 2 (ix2 0 c))) 1#32; unfold mergePick; rw [mergeLeft_two]; rfl
  | ⟨3, _⟩ => show _ = IntOp.addi (IntOp.muli 2#32 (mergePick v ix 3 (ix2 0 c))) 1#32; unfold mergePick; rw [mergeLeft_succ, mergeLeft_two]; rfl

end Cert.KernelIdeal.Run
end
-- ==== Proof.IdealRun.Range.lean ====
/-
  The indices that the scoring kernel selects stay in range: a row of the table below 8192, or the padding word 2^30 (a column without a comparable greatest value), of either of which the gather's expanded words stay inside the table.
-/
module

public import proofs.«01_k».proof.Proof.IdealRun.Pick
public import Idealize.ShloMosaic.Lib.SortNet.Extract

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)

variable {F : FTy → Type} [FloatOps F]

/-- A table row's number, or the padding word. -/
def Good (w : BitVec 32) : Prop := w.toNat < 8192 ∨ w = 1073741824#32

theorem Good.toInt_lt {w : BitVec 32} (h : Good w) : w.toInt < (2147483647#32 : BitVec 32).toInt := by
  rcases h with h | rfl
  · rw [BitVec.toInt_eq_toNat_of_lt (by omega)]
    have : (2147483647#32 : BitVec 32).toInt = 2147483647 := by decide
    omega
  · decide

/-- A fold of the signed minimum is at most the start and every word met, and is one of them. -/
theorem fold_minsi_spec {ι : Type} [DecidableEq ι] (g : ι → BitVec 32) (s : Finset ι) (init : BitVec 32) :
    (∀ i ∈ s, (s.fold IntOp.minsi init g).toInt ≤ (g i).toInt) ∧
      (s.fold IntOp.minsi init g = init ∨ ∃ i ∈ s, s.fold IntOp.minsi init g = g i) := by
  induction s using Finset.induction_on with
  | empty => exact ⟨fun i hi => absurd hi (Finset.notMem_empty i), Or.inl Finset.fold_empty⟩
  | insert a s has ih =>
    obtain ⟨h1, h2⟩ := ih
    rw [Finset.fold_insert has]
    have hm := SortNet.toInt_minsi (g a) (s.fold IntOp.minsi init g)
    refine ⟨fun i hi => ?_, ?_⟩
    · rcases Finset.mem_insert.mp hi with rfl | hi
      · rw [hm]; exact min_le_left _ _
      · exact le_trans (by rw [hm]; exact min_le_right _ _) (h1 i hi)
    · unfold IntOp.minsi
      split
      · exact Or.inr ⟨a, Finset.mem_insert_self _ _, rfl⟩
      · rcases h2 with h | ⟨i, hi, h⟩
        · exact Or.inl h
        · exact Or.inr ⟨i, Finset.mem_insert_of_mem hi, h⟩

theorem fold_good {ι : Type} (g : ι → BitVec 32) (s : Finset ι) (hs : s.Nonempty) (hg : ∀ i, Good (g i)) :
    Good (s.fold IntOp.minsi 2147483647#32 g) := by
  classical
  obtain ⟨h1, h2⟩ := fold_minsi_spec g s 2147483647#32
  rcases h2 with h | ⟨i, -, h⟩
  · obtain ⟨i, hi⟩ := hs
    have := h1 i hi
    rw [h] at this
    exact absurd (hg i).toInt_lt (not_lt.mpr this)
  · rw [h]; exact hg i

theorem pickIdx_good {n : ℕ} (hn : 0 < n) (hr : (Rows n).Reduces [0] S1024) (hb : S1x1024.Broadcasts (Rows n)) (ix : IVec (Rows n) 32) (v : FVec F (Rows n) .f32)
    (hix : ∀ j, Good (ix j)) (c : Fin 1024) : Good (pickIdx hr hb ix v (ix2 0 c)) := by
  rw [pickIdx_apply]
  refine fold_good _ _ ⟨⟨0, hn⟩, Finset.mem_univ _⟩ fun r => ?_
  unfold Scalar.select
  split
  · exact hix _
  · exact Or.inr rfl

theorem rowIdx_toNat (i : grid0.Coords) (r : Fin 512) (c : Fin 1024) : (rowIdx i (ix2 r c)).toNat = 512 * (i 0).val + r.val := by
  have hi : (i 0).val < 16 := (i 0).isLt
  have hr := r.isLt
  show (BitVec.ofNat 32 (0 * 512 + r.val) + BitVec.ofNat 32 (i 0).val * 512#32).toNat = _
  rw [BitVec.toNat_add, BitVec.toNat_mul, BitVec.toNat_ofNat, BitVec.toNat_ofNat]
  show ((0 * 512 + r.val) % 2 ^ 32 + (i 0).val % 2 ^ 32 * 512 % 2 ^ 32) % 2 ^ 32 = _
  omega

theorem rowIdx_good (i : grid0.Coords) (j : S512x1024.Idx) : Good (rowIdx i j) := by
  have hj : j = ix2 (j 0) (j 1) := by
    funext a
    match a with
    | ⟨0, _⟩ => rfl
    | ⟨1, _⟩ => rfl
  rw [hj]
  refine Or.inl ?_
  have hi : (i 0).val < 16 := (i 0).isLt
  have hr : (j 0).val < 512 := (j 0).isLt
  exact (rowIdx_toNat i (j 0) (j 1)).trans_lt (by omega)

theorem candIdxs_good (x : Vec F S1024x768 .f32) (keys : S8192x768.Idx → F .f32) (y : S16x8x1024.Idx) : Good (candIdxs x keys y) := by
  unfold candIdxs
  rcases Nat.lt_or_ge (y 1).val 4 with h | h
  · exact (bestIdxs_row (F := F) _ _ ⟨(y 1).val, h⟩ (y 2)) ▸ pickIdx_good (by decide) _ _ _ _ (rowIdx_good _) _
  · have h8 : (y 1).val < 8 := (y 1).isLt
    have he : (y 1) = (⟨(⟨(y 1).val - 4, by omega⟩ : Fin 4).val + 4, by show (y 1).val - 4 + 4 < 8; omega⟩ : Fin 8) :=
      Fin.ext (by show (y 1).val = (y 1).val - 4 + 4; omega)
    rw [he]
    exact Or.inr (bestIdxs_pad (F := F) _ _ ⟨(y 1).val - 4, by omega⟩ (y 2))

theorem mergePick_good (v : Vec F S16x8x1024 .f32) (ix : Vec F S16x8x1024 .i32) (hix : ∀ y, Good (ix y)) (k : ℕ) (c : Fin 1024) :
    Good (mergePick v ix k (ix2 0 c)) :=
  pickIdx_good (by decide) _ _ _ _ (fun j => hix _) c

/-- A half row's number, or one of the two words of the padding. -/
def GoodHalf (w : BitVec 32) : Prop := w.toNat < 16384 ∨ w = 2147483648#32 ∨ w = 2147483649#32

theorem Good.even {w : BitVec 32} (h : Good w) : GoodHalf (IntOp.muli 2#32 w) := by
  rcases h with h | rfl
  · refine Or.inl ?_
    show (2#32 * w).toNat < _
    rw [BitVec.toNat_mul]
    show 2 * w.toNat % 2 ^ 32 < _
    omega
  · exact Or.inr (Or.inl (by decide))
theorem Good.odd {w : BitVec 32} (h : Good w) : GoodHalf (IntOp.addi (IntOp.muli 2#32 w) 1#32) := by
  rcases h with h | rfl
  · refine Or.inl ?_
    show (2#32 * w + 1#32).toNat < _
    rw [BitVec.toNat_add, BitVec.toNat_mul]
    show (2 * w.toNat % 2 ^ 32 + 1) % 2 ^ 32 < _
    omega
  · exact Or.inr (Or.inr (by decide))

theorem chosen_good (x : Vec F S1024x768 .f32) (keys : S8192x768.Idx → F .f32) (r : Fin 8) (c : Fin 1024) : GoodHalf (chosen x keys (ix2 r c)) := by
  unfold chosen
  have hr := r.isLt
  rcases Nat.mod_two_eq_zero_or_one r.val with h | h
  · have he : r = (⟨2 * (⟨r.val / 2, by omega⟩ : Fin 4).val, by show 2 * (r.val / 2) < 8; omega⟩ : Fin 8) :=
      Fin.ext (by show r.val = 2 * (r.val / 2); omega)
    rw [he]
    exact (pick_even (F := F) _ _ ⟨r.val / 2, by omega⟩ c) ▸ (mergePick_good _ _ (candIdxs_good x keys) _ c).even
  · have he : r = (⟨2 * (⟨r.val / 2, by omega⟩ : Fin 4).val + 1, by show 2 * (r.val / 2) + 1 < 8; omega⟩ : Fin 8) :=
      Fin.ext (by show r.val = 2 * (r.val / 2) + 1; omega)
    rw [he]
    exact (pick_odd (F := F) _ _ ⟨r.val / 2, by omega⟩ c) ▸ (mergePick_good _ _ (candIdxs_good x keys) _ c).odd

/-- The words of a half row's 48 pieces stay inside the table. -/
theorem GoodHalf.piece {w : BitVec 32} (h : GoodHalf w) (j : ℕ) (hj : j < 48) : (IntOp.addi (IntOp.muli w 48#32) (BitVec.ofNat 32 j)).toNat < 786432 := by
  show (w * 48#32 + BitVec.ofNat 32 j).toNat < _
  rw [BitVec.toNat_add, BitVec.toNat_mul, BitVec.toNat_ofNat]
  show (w.toNat * 48 % 2 ^ 32 + j % 2 ^ 32) % 2 ^ 32 < _
  rcases h with h | rfl | rfl
  · rw [Nat.mod_eq_of_lt (by omega : w.toNat * 48 < 2 ^ 32), Nat.mod_eq_of_lt (by omega : j < 2 ^ 32)]
    exact (Nat.mod_le _ _).trans_lt (by omega)
  · show (2147483648 * 48 % 2 ^ 32 + j % 2 ^ 32) % 2 ^ 32 < _
    omega
  · show (2147483649 * 48 % 2 ^ 32 + j % 2 ^ 32) % 2 ^ 32 < _
    omega

end Cert.KernelIdeal.Run
end
-- ==== Proof.IdealRun.HostChain.lean ====
/-
  The host operations around the gather: the table cut into rows of 128 lanes, and every selected half row's number spread over the numbers of its 48 pieces.
-/
module

public import proofs.«01_k».proof.Proof.IdealRun.TcRegion
public import proofs.«01_k».proof.Proof.IdealRun.Range
public import Idealize.ShloMosaic.Lib.StableHlo.Run

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Pipeline (Dat Cfg Window BodyObligation cellOf)

open Idealize.ShloMosaic.StableHlo

variable {F : FTy → Type} [FloatOps F]

/-- The host operations before the gather. -/
abbrev hostOps : List (HloOp τ sig (Elt F)) :=
  [ reshape main_arg2 main_v1 (rfl : (.f32 : EltTy) = .f32) shapeCasts_S8192x16x768_S786432x128,
    unary main_v0 main_v2 ((transpose S1024x8 [1, 0] · transposes_S8x1024_S1024x8_1_0) : (⟨S8x1024, .i32⟩ : BufTy).Contents (Elt F) → (⟨S1024x8, .i32⟩ : BufTy).Contents (Elt F)),
    reshape main_v2 main_v3 (rfl : (.i32 : EltTy) = .i32) shapeCasts_S1024x8_S8192,
    unary main_v3 main_v4 (broadcastInDim S8192x1 ![0] bcast_S8192_S8192x1_0 : (⟨S8192, .i32⟩ : BufTy).Contents (Elt F) → (⟨S8192x1, .i32⟩ : BufTy).Contents (Elt F)),
    nullary main_c (constantI S_ 32 48#32),
    unary main_c main_v5 (broadcastInDim S8192x1 ![] bcast_S_S8192x1 : (⟨S_, .i32⟩ : BufTy).Contents (Elt F) → (⟨S8192x1, .i32⟩ : BufTy).Contents (Elt F)),
    binary main_v4 main_v5 main_v6 (muli : (⟨S8192x1, .i32⟩ : BufTy).Contents (Elt F) → (⟨S8192x1, .i32⟩ : BufTy).Contents (Elt F) → (⟨S8192x1, .i32⟩ : BufTy).Contents (Elt F)),
    nullary main_v7 (iotaInDim S48 32 0),
    unary main_v7 main_v8 (broadcastInDim S1x48 ![1] bcast_S48_S1x48_1 : (⟨S48, .i32⟩ : BufTy).Contents (Elt F) → (⟨S1x48, .i32⟩ : BufTy).Contents (Elt F)),
    unary main_v6 main_v9 (broadcastInDim S8192x48 ![0, 1] bcast_S8192x1_S8192x48_0_1 : (⟨S8192x1, .i32⟩ : BufTy).Contents (Elt F) → (⟨S8192x48, .i32⟩ : BufTy).Contents (Elt F)),
    unary main_v8 main_v10 (broadcastInDim S8192x48 ![0, 1] bcast_S1x48_S8192x48_0_1 : (⟨S1x48, .i32⟩ : BufTy).Contents (Elt F) → (⟨S8192x48, .i32⟩ : BufTy).Contents (Elt F)),
    binary main_v9 main_v10 main_v11 (addi : (⟨S8192x48, .i32⟩ : BufTy).Contents (Elt F) → (⟨S8192x48, .i32⟩ : BufTy).Contents (Elt F) → (⟨S8192x48, .i32⟩ : BufTy).Contents (Elt F)),
    reshape main_v11 main_v12 (rfl : (.i32 : EltTy) = .i32) shapeCasts_S8192x48_S393216,
    reshape main_v12 main_v13 (rfl : (.i32 : EltTy) = .i32) shapeCasts_S393216_S1024x384 ]
/-- The one after it. -/
abbrev lastOps : List (HloOp τ sig (Elt F)) :=
  [ reshape main_v14 main_v15 (rfl : (.f32 : EltTy) = .f32) shapeCasts_S393216x128_S1024x4x16x768 ]

theorem main_eq (d : Dev nD) : main (F := F) d
    = (Prog.lift (.customCall (SparseCore.inner (Pipeline.entry 0)) ()) >>= fun _ => seq hostOps >>= fun _ => sc.run d 0 >>= fun _ => seq lastOps) := rfl

theorem hostOps_sub : ∀ op ∈ (hostOps : List (HloOp τ sig (Elt F))), op.bufs ⊆ Pipeline.ucRefs τ sig := fun op h =>
  Pipeline.sub_ucRefs op (List.forall_iff_forall_mem.mp (show (hostOps : List (HloOp τ sig (Elt F))).Forall fun op => op.bufs ⊆ tcRefs τ sig from
    ⟨reshape_bufs_sub .., unary_bufs_sub .., reshape_bufs_sub .., unary_bufs_sub .., nullary_bufs_sub .., unary_bufs_sub .., binary_bufs_sub .., nullary_bufs_sub .., unary_bufs_sub .., unary_bufs_sub .., unary_bufs_sub .., binary_bufs_sub .., reshape_bufs_sub .., reshape_bufs_sub ..⟩) op h)
theorem lastOps_sub : ∀ op ∈ (lastOps : List (HloOp τ sig (Elt F))), op.bufs ⊆ Pipeline.ucRefs τ sig := fun op h =>
  Pipeline.sub_ucRefs op (List.forall_iff_forall_mem.mp (show (lastOps : List (HloOp τ sig (Elt F))).Forall fun op => op.bufs ⊆ tcRefs τ sig from
    reshape_bufs_sub ..) op h)
theorem hostOps_fresh : ∀ op ∈ (hostOps : List (HloOp τ sig (Elt F))), op.fresh = ∅ := by
  intro _ h; (repeat (cases h with | head => rfl | tail _ h => ?_)); exact nomatch h
theorem lastOps_fresh : ∀ op ∈ (lastOps : List (HloOp τ sig (Elt F))), op.fresh = ∅ := by
  intro _ h; (repeat (cases h with | head => rfl | tail _ h => ?_)); exact nomatch h

/-! ## What they compute -/

/-- The index lists, from the selected half rows. -/
def words (sel : IVec S8x1024 32) : IVec S1024x384 32 :=
  shapeCast S1024x384 (shapeCast S393216 (addi
      (broadcastInDim S8192x48 ![0, 1] bcast_S8192x1_S8192x48_0_1 (muli
        (broadcastInDim S8192x1 ![0] bcast_S8192_S8192x1_0 (shapeCast S8192 (transpose S1024x8 [1, 0] sel transposes_S8x1024_S1024x8_1_0) shapeCasts_S1024x8_S8192))
        (broadcastInDim S8192x1 ![] bcast_S_S8192x1 (constantI S_ 32 48#32))))
      (broadcastInDim S8192x48 ![0, 1] bcast_S1x48_S8192x48_0_1 (broadcastInDim S1x48 ![1] bcast_S48_S1x48_1 (iotaInDim S48 32 0)))) shapeCasts_S8192x48_S393216) shapeCasts_S393216_S1024x384

theorem words_at (sel : IVec S8x1024 32) (a : Fin 1024) (b : Fin 384) :
    words sel (ix2 a b) = IntOp.addi (IntOp.muli (sel (ix2 ⟨(384 * a.val + b.val) / 48 % 8, by omega⟩ ⟨(384 * a.val + b.val) / 48 / 8, by omega⟩)) 48#32)
      (BitVec.ofNat 32 ((384 * a.val + b.val) % 48)) := by
  unfold words
  refine (shapeCast_apply _ _ (ix2 a b) (ix1 ⟨384 * a.val + b.val, by omega⟩) ?_).trans ?_
  · rw [Shape.rowMajor_val_one, Shape.rowMajor_val_two]
    show 384 * a.val + b.val = a.val * 384 + b.val
    omega
  refine (shapeCast_apply _ _ (ix1 ⟨384 * a.val + b.val, by omega⟩) (ix2 ⟨(384 * a.val + b.val) / 48, by omega⟩ ⟨(384 * a.val + b.val) % 48, by omega⟩) ?_).trans ?_
  · rw [Shape.rowMajor_val_one, Shape.rowMajor_val_two]
    show (384 * a.val + b.val) / 48 * 48 + (384 * a.val + b.val) % 48 = 384 * a.val + b.val
    omega
  refine congrArg₂ IntOp.addi ?_ ?_
  · refine (broadcastInDim_apply ![0, 1] _ _ _ (ix2 ⟨(384 * a.val + b.val) / 48, by omega⟩ (0 : Fin 1)) ?_).trans ?_
    · intro e
      match e with
      | ⟨0, _⟩ => rfl
      | ⟨1, _⟩ => rfl
    refine congrArg₂ IntOp.muli ?_ rfl
    refine (broadcastInDim_apply ![0] _ _ _ (ix1 ⟨(384 * a.val + b.val) / 48, by omega⟩) ?_).trans ?_
    · intro e
      match e with
      | ⟨0, _⟩ => rfl
    refine (shapeCast_apply _ _ _ (ix2 ⟨(384 * a.val + b.val) / 48 / 8, by omega⟩ ⟨(384 * a.val + b.val) / 48 % 8, by omega⟩) ?_).trans ?_
    · rw [Shape.rowMajor_val_one, Shape.rowMajor_val_two]
      show (384 * a.val + b.val) / 48 / 8 * 8 + (384 * a.val + b.val) / 48 % 8 = (384 * a.val + b.val) / 48
      omega
    exact transpose_ix2_apply _ _ _ _
  · refine (broadcastInDim_apply ![0, 1] _ _ _ (ix2 (0 : Fin 1) ⟨(384 * a.val + b.val) % 48, by omega⟩) ?_).trans ?_
    · intro e
      match e with
      | ⟨0, _⟩ => rfl
      | ⟨1, _⟩ => rfl
    refine (broadcastInDim_apply ![1] _ _ _ (ix1 ⟨(384 * a.val + b.val) % 48, by omega⟩) ?_).trans ?_
    · intro e
      match e with
      | ⟨0, _⟩ => rfl
    rfl

/-- Every word of the index lists names a row of the table. -/
theorem words_lt (x : Vec F S1024x768 .f32) (keys : S8192x768.Idx → F .f32) (j : S1024x384.Idx) : (words (chosen x keys) j).toNat < 786432 := by
  have hj : j = ix2 (j 0) (j 1) := by
    funext a
    match a with
    | ⟨0, _⟩ => rfl
    | ⟨1, _⟩ => rfl
  have h0 : (j 0).val < 1024 := (j 0).isLt
  have h1 : (j 1).val < 384 := (j 1).isLt
  refine (congrArg (fun j => (words (chosen x keys) j).toNat) hj).trans_lt ?_
  refine (congrArg BitVec.toNat (words_at (chosen x keys) (j 0) (j 1))).trans_lt ?_
  exact (chosen_good x keys _ _).piece _ (Nat.mod_lt _ (by decide))

/-! ## The buffers after them -/

theorem host_tab (V : Valuation τ sig (Elt F)) : after hostOps V main_v1 = shapeCast S786432x128 (V main_arg2 : S8192x16x768.Idx → F .f32) shapeCasts_S8192x16x768_S786432x128 := by
  after_results_simp <;> rfl
theorem host_words (V : Valuation τ sig (Elt F)) : after hostOps V main_v13 = words (V main_v0) := by
  after_results_simp <;> rfl
theorem host_arg0 (V : Valuation τ sig (Elt F)) : after hostOps V main_arg0 = V main_arg0 := by
  after_results_simp <;> rfl
theorem host_arg1 (V : Valuation τ sig (Elt F)) : after hostOps V main_arg1 = V main_arg1 := by
  after_results_simp <;> rfl
theorem host_arg2 (V : Valuation τ sig (Elt F)) : after hostOps V main_arg2 = V main_arg2 := by
  after_results_simp <;> rfl
theorem host_out (V : Valuation τ sig (Elt F)) : after hostOps V main_v14 = V main_v14 := by
  after_results_simp <;> rfl

theorem last_res (V : Valuation τ sig (Elt F)) : after lastOps V main_v15 = shapeCast S1024x4x16x768 (V main_v14 : S393216x128.Idx → F .f32) shapeCasts_S393216x128_S1024x4x16x768 := by
  after_results_simp <;> rfl
theorem last_arg0 (V : Valuation τ sig (Elt F)) : after lastOps V main_arg0 = V main_arg0 := by
  after_results_simp <;> rfl
theorem last_arg1 (V : Valuation τ sig (Elt F)) : after lastOps V main_arg1 = V main_arg1 := by
  after_results_simp <;> rfl
theorem last_arg2 (V : Valuation τ sig (Elt F)) : after lastOps V main_arg2 = V main_arg2 := by
  after_results_simp <;> rfl

end Cert.KernelIdeal.Run
end
-- ==== Proof.IdealRun.Launch.lean ====
/-
  The launch: the TensorCore's @main with the scoring kernel's region, the host operations and the gather's call; the 32 tasks; the whole program's run with every result at its value.
-/
module

public import proofs.«01_k».proof.Proof.IdealRun.Deal
public import proofs.«01_k».proof.Proof.IdealRun.HostChain
public import Idealize.ShloMosaic.Lib.SparseCore.Quiescent

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Pipeline (Dat Cfg Window BodyObligation cellOf)

open Idealize.ShloMosaic.SparseCore (S V T)
open Idealize.ShloMosaic.StableHlo

variable {F : FTy → Type} [FloatOps F]

local notation "𝕄" => MT nD τ sig (HIx 1) (Elt F) ℕ UU ℕ

variable (m : (ℓ : Loc nD τ sig) → Buf (Elt F) ℓ) (ρ : Dev nD → PrngReg)

/-! ## The values -/

abbrev at0 (d : Dev nD) : Valuation τ sig (Elt F) := fun b => m (d, b)

/-- The half rows that the scoring kernel selects. -/
def selV (d : Dev nD) : IVec S8x1024 32 := chosen (at0 m d main_arg0 : Vec F S1024x768 .f32) (at0 m d main_arg1 : S8192x768.Idx → F .f32)
/-- The table in rows of 128 lanes. -/
def tabV (d : Dev nD) : S786432x128.Idx → F .f32 := shapeCast S786432x128 (at0 m d main_arg2 : S8192x16x768.Idx → F .f32) shapeCasts_S8192x16x768_S786432x128
/-- The index lists. -/
def ixV (d : Dev nD) : S1024x384.Idx → BitVec 32 := words (selV m d)
/-- What the gather finds in its result. -/
def oldV (d : Dev nD) : S393216x128.Idx → F .f32 := at0 m d main_v14
/-- What it leaves. -/
def newV (d : Dev nD) : S393216x128.Idx → F .f32 := gathered (tabV m d) (ixV m d)
/-- The program's result. -/
def outV (d : Dev nD) : S1024x4x16x768.Idx → F .f32 := shapeCast S1024x4x16x768 (newV m d) shapeCasts_S393216x128_S1024x4x16x768

/-- The TensorCore's buffers after the region, before the gather, after it, and at the end. -/
def at1 (d : Dev nD) : Valuation τ sig (Elt F) := Function.update (at0 m d) (main_v0 : DevRef τ sig) (selV m d)
def at2 (d : Dev nD) : Valuation τ sig (Elt F) := after hostOps (at1 m d)
def at3 (d : Dev nD) : Valuation τ sig (Elt F) := Function.update (at2 m d) (main_v14 : DevRef τ sig) (newV m d)
def at4 (d : Dev nD) : Valuation τ sig (Elt F) := after lastOps (at3 m d)

theorem at1_ne (d : Dev nD) (b : Ref sig .tc) (h : b ≠ main_v0) : at1 m d b = at0 m d b :=
  Function.update_of_ne (fun e => h (Proc.devRef_injective _ e)) _ _
theorem at3_ne (d : Dev nD) (b : Ref sig .tc) (h : b ≠ main_v14) : at3 m d b = at2 m d b :=
  Function.update_of_ne (fun e => h (Proc.devRef_injective _ e)) _ _
theorem at2_tab (d : Dev nD) : at2 m d main_v1 = tabV m d :=
  (host_tab (at1 m d)).trans (congrArg (fun x => shapeCast S786432x128 (x : S8192x16x768.Idx → F .f32) shapeCasts_S8192x16x768_S786432x128) (at1_ne m d main_arg2 (by decide)))
theorem at2_ix (d : Dev nD) : at2 m d main_v13 = ixV m d :=
  (host_words (at1 m d)).trans (congrArg words (show at1 m d main_v0 = selV m d from Function.update_self _ _ _))
theorem at2_out (d : Dev nD) : at2 m d main_v14 = oldV m d := (host_out (at1 m d)).trans (at1_ne m d main_v14 (by decide))
theorem at4_arg0 (d : Dev nD) : at4 m d main_arg0 = at0 m d main_arg0 :=
  (last_arg0 _).trans ((at3_ne m d main_arg0 (by decide)).trans ((host_arg0 _).trans (at1_ne m d main_arg0 (by decide))))
theorem at4_arg1 (d : Dev nD) : at4 m d main_arg1 = at0 m d main_arg1 :=
  (last_arg1 _).trans ((at3_ne m d main_arg1 (by decide)).trans ((host_arg1 _).trans (at1_ne m d main_arg1 (by decide))))
theorem at4_arg2 (d : Dev nD) : at4 m d main_arg2 = at0 m d main_arg2 :=
  (last_arg2 _).trans ((at3_ne m d main_arg2 (by decide)).trans ((host_arg2 _).trans (at1_ne m d main_arg2 (by decide))))
theorem at4_res (d : Dev nD) : at4 m d main_v15 = outV m d :=
  (last_res (at3 m d)).trans (congrArg (fun x => shapeCast S1024x4x16x768 (x : S393216x128.Idx → F .f32) shapeCasts_S393216x128_S1024x4x16x768)
    (show at3 m d main_v14 = newV m d from Function.update_self _ _ _))

/-! ## The gather's call -/

/-- A task's operands before and after. -/
def taskIn (d : Dev nD) (c : Fin 2) (s : Fin 16) : sProp 𝕄 := goes d (coordsV c s) (tabV m d) (ixV m d) (oldV m d) (shareOf (c, s))
def taskOut (d : Dev nD) (c : Fin 2) (s : Fin 16) : sProp 𝕄 := goes d (coordsV c s) (tabV m d) (ixV m d) (newV m d) (shareOf (c, s))

instance taskIn_storable (d : Dev nD) (c : Fin 2) (s : Fin 16) : BI.Storable (upEmb : UEmb _ 𝕄) (taskIn m d c s) := by
  unfold taskIn goes; infer_instance
instance taskOut_storable (d : Dev nD) (c : Fin 2) (s : Fin 16) : BI.Storable (upEmb : UEmb _ 𝕄) (taskOut m d c s) := by
  unfold taskOut goes; infer_instance

theorem nCore_zero : (KS F).nCore 0 = 2 := rfl
theorem nSub_zero : (KS F).nSub 0 = 16 := rfl

/-- What the call's handshakes carry. -/
def P : (KS F).Pay (nD := nD) (Val := Elt F) (Name := ℕ) (U := UU) where
  st := fun q d c => match q with | 0 => bigSep Finset.univ fun i : Fin ((KS F).nSub 0) => taskIn m d (Fin.cast nCore_zero c) (Fin.cast nSub_zero i)
  dn := fun q d c => match q with | 0 => bigSep Finset.univ fun i : Fin ((KS F).nSub 0) => taskOut m d (Fin.cast nCore_zero c) (Fin.cast nSub_zero i)
  go := fun q d c i => match q with | 0 => taskIn m d (Fin.cast nCore_zero c) (Fin.cast nSub_zero i)
  td := fun q d c i => match q with | 0 => taskOut m d (Fin.cast nCore_zero c) (Fin.cast nSub_zero i)
  x := fun _ _ => iprop(emp)

instance P_storable : (P m).IsStorable where
  st q d c := match q with
    | 0 => (inferInstance : BI.Storable (upEmb : UEmb _ 𝕄) (bigSep Finset.univ fun i : Fin ((KS F).nSub 0) => taskIn m d (Fin.cast nCore_zero c) (Fin.cast nSub_zero i)))
  dn q d c := match q with
    | 0 => (inferInstance : BI.Storable (upEmb : UEmb _ 𝕄) (bigSep Finset.univ fun i : Fin ((KS F).nSub 0) => taskOut m d (Fin.cast nCore_zero c) (Fin.cast nSub_zero i)))
  go q d c i := match q with
    | 0 => (inferInstance : BI.Storable (upEmb : UEmb _ 𝕄) (taskIn m d (Fin.cast nCore_zero c) (Fin.cast nSub_zero i)))
  td q d c i := match q with
    | 0 => (inferInstance : BI.Storable (upEmb : UEmb _ 𝕄) (taskOut m d (Fin.cast nCore_zero c) (Fin.cast nSub_zero i)))

theorem defs₀_gather (c : Fin τ.nSC) (s : Fin τ.nSub) :
    defs₀ (F := F) (.scVector c s) 1 ()
      = SparseCore.onTile hcore1 hsub1 (fun c s => cc1_gather_kernel (coordsV c s)
          (Memref.whole main_v1_scv) (Memref.isWhole_whole _) (Memref.whole main_v13_scv) (Memref.isWhole_whole _) (Memref.whole main_v14_scv) (Memref.isWhole_whole _)
          (Memref.whole cc1_scratch0) (Memref.isWhole_whole _) (Memref.whole cc1_scratch1) (Memref.isWhole_whole _) (Memref.whole cc1_scratch2) (Memref.isWhole_whole _)
          cc1_scratch3 cc1_scratch4 cc1_scratch5 cc1_scratch6 cc1_scoped0) ⟨⟩ c s := rfl

theorem task_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem ixV_lt (d : Dev nD) (j : S1024x384.Idx) : (ixV m d j).toNat < 786432 := words_lt _ _ j

/-- Every task of the gather does its part. -/
theorem tileObl (hF : (KS F).Facts) : (KS F).TileObl (DP F) 𝒱 (P m) v₀ 0 := by
  intro d c i O W hO _ _
  simp only [show (P m).ox = fun _ _ => 0 from rfl, add_zero]
  have hci : ((KS F).core 0 c).val < grid1.bound 0 ∧ ((KS F).sub 0 i).val < grid1.bound 1 := ⟨c.isLt, i.isLt⟩
  change _ ⊢ wp _ _ _ (Pipeline.liftProg (defs₀ (F := F) (.scVector ((KS F).core 0 c) ((KS F).sub 0 i)) 1 ())) _
  refine BI.Entails.trans ?_ (Pipeline.wp_liftProg (DP F) (Pipeline.defs_kernel pcfgs defs₀) 𝒱₀ _ Set.univ none _ _)
  rw [defs₀_gather]; simp only [SparseCore.onTile, hci, and_self, ↓reduceDIte]
  exact (tile_loop d (coordsV ⟨_, hci.1⟩ ⟨_, hci.2⟩) (tabV m d) (ixV m d) (oldV m d) (shareOf (⟨_, hci.1⟩, ⟨_, hci.2⟩)) (ixV_lt m d) O W hO hF).trans
    (wp_mono frame _ _ fun _ => task_post)

theorem vecSplit : (KS F).VecSplit' (P m) 0 := by
  intro d c
  show (bigSep Finset.univ fun i : Fin ((KS F).nSub 0) => taskIn m d (Fin.cast nCore_zero c) (Fin.cast nSub_zero i))
    ⊢ |={Set.univ}=> iprop((bigSep Finset.univ fun i : Fin ((KS F).nSub 0) => taskIn m d (Fin.cast nCore_zero c) (Fin.cast nSub_zero i))
      ∗ ((bigSep Finset.univ fun i : Fin ((KS F).nSub 0) => taskOut m d (Fin.cast nCore_zero c) (Fin.cast nSub_zero i))
          -∗ (bigSep Finset.univ fun i : Fin ((KS F).nSub 0) => taskOut m d (Fin.cast nCore_zero c) (Fin.cast nSub_zero i))))
  iintro H; imodintro
  isplitl [H]; · iexact H
  iintro H; iexact H

theorem bigSep_tasks (Φ : Fin 2 → Fin 16 → sProp 𝕄) :
    (bigSep Finset.univ fun c : Fin ((KS F).nCore 0) => bigSep Finset.univ fun i : Fin ((KS F).nSub 0) => Φ (Fin.cast nCore_zero c) (Fin.cast nSub_zero i))
      = bigSep Finset.univ fun c : Fin 2 => bigSep Finset.univ fun i : Fin 16 => Φ c i := rfl

theorem st_eq (d : Dev nD) : (bigSep Finset.univ fun c : Fin ((KS F).nCore 0) => (P m).st 0 d c)
    = iprop((tabLoc d ↦{fullShare} (tabV m d : Buf (Elt F) (tabLoc d))) ∗ (idxLoc d ↦{fullShare} (ixV m d : Buf (Elt F) (idxLoc d)))
      ∗ (outLoc d ↦{fullShare} (oldV m d : Buf (Elt F) (outLoc d)))) :=
  (bigSep_tasks (taskIn m d)).trans (deal d (tabV m d) (ixV m d) (oldV m d)).symm
theorem dn_eq (d : Dev nD) : (bigSep Finset.univ fun c : Fin ((KS F).nCore 0) => (P m).dn 0 d c)
    = iprop((tabLoc d ↦{fullShare} (tabV m d : Buf (Elt F) (tabLoc d))) ∗ (idxLoc d ↦{fullShare} (ixV m d : Buf (Elt F) (idxLoc d)))
      ∗ (outLoc d ↦{fullShare} (newV m d : Buf (Elt F) (outLoc d)))) :=
  (bigSep_tasks (taskOut m d)).trans (deal d (tabV m d) (ixV m d) (newV m d)).symm

/-! ## The launch's ghost state -/

/-- The pipeline's rounds, in the certificate's algebra. -/
abbrev EP : Emb UP 𝕄 := (Emb.inl : Emb UP (UP × Counters)).trans (embR : Emb (UP × Counters) 𝕄)

/-- The pipelines at their (empty) prefetched tables. -/
abbrev pins : Fin 1 → Pipeline.Cfg sig Λ₀ := Pipeline.pin (pcfgs (F := F)) adm

theorem pins_inj : Function.Injective (Pipeline.cellOf (nD := nD) (τ := τ) (pins (F := F))) := cellOf_inj

def u₀ : UU := (initOf (KS F).hsCells (KS F).hsToks, (initOf (Pipeline.cells (pins (F := F)) pins_inj) (Pipeline.launchToks (pins (F := F)) pins_inj), 1))

/-- The pipeline's own ghost state of a TensorCore. -/
def pipeG (d : Dev nD) : sProp 𝕄 := iprop(Pipeline.cellsGhost (pins (F := F)) EP 0 d ∗ Pipeline.toksInit (pins (F := F)) EP 0 d)

theorem hu₀ : (ownU (u₀ (F := F)) : sProp 𝕄)
    ⊢ |={Set.univ}=> iprop(BI.own (EH (initOf (KS F).hsCells (KS F).hsToks)) ∗ (bigSep Finset.univ fun d : Dev nD => pipeG d)
        ∗ bigSep Finset.univ fun thr : Thread nD τ => bigSep Finset.univ fun q : Fin 1 => (P m).x q thr) := by
  unfold u₀
  iintro Hu
  ihave H := (ownU_pair (initOf (KS F).hsCells (KS F).hsToks) _) $$ Hu
  icases H with ⟨HH, HR⟩
  ihave H := (own_pair_emb embR _ _) $$ HR
  icases H with ⟨HP, -⟩
  imod (Pipeline.fund_ghost (pins (F := F)) (EP (F := F)) pins_inj) $$ HP with ⟨Hc, Ht⟩
  imodintro
  isplitl [HH]; · iexact HH
  isplitl [Hc Ht]
  · ihave Hc := (Entails.of_eq (show (bigSep Finset.univ fun d : Dev nD => bigSep Finset.univ fun p => Pipeline.cellsGhost (pins (F := F)) EP p d)
      = (bigSep Finset.univ fun d : Dev nD => Pipeline.cellsGhost (pins (F := F)) EP 0 d : sProp 𝕄) from bigSep_congr fun _ _ => bigSep_univ_of_subsingleton (0 : Fin 1))) $$ Hc
    ihave Ht := (Entails.of_eq (show (bigSep Finset.univ fun d : Dev nD => bigSep Finset.univ fun p => Pipeline.toksInit (pins (F := F)) EP p d)
      = (bigSep Finset.univ fun d : Dev nD => Pipeline.toksInit (pins (F := F)) EP 0 d : sProp 𝕄) from bigSep_congr fun _ _ => bigSep_univ_of_subsingleton (0 : Fin 1))) $$ Ht
    unfold pipeG
    rw [bigSep_sep']
    isplitl [Hc]; · iexact Hc
    iexact Ht
  rw [show (bigSep Finset.univ fun thr : Thread nD τ => bigSep Finset.univ fun q : Fin 1 => (P m).x q thr) = bigSep Finset.univ fun _ => iprop(emp) from
    bigSep_congr fun _ _ => bigSep_univ_of_subsingleton (0 : Fin 1)]
  exact Entails.of_eq (bigSep_emp_const _).symm

/-! ## @main on the TensorCore -/

abbrev bufs0 (c : Dev nD) (b : Ref sig .tc) : Buf (Elt F) ((c : Thread nD τ).loc b) := m ((c : Thread nD τ).loc b)

theorem after_region (d : Dev nD) : (unscopedBufs d (afterTc (bufs0 m) d) : sProp 𝕄) = held (T d : Thread nD τ) (Pipeline.ucRefs τ sig) (at1 m d) := by
  refine (congrArg (fun V => (unscopedBufs d V : sProp 𝕄)) (funext fun b => ?_)).trans (Pipeline.unscopedBufs_held d (at1 m d))
  by_cases h : b = main_v0
  · subst h
    exact (afterTc_out (bufs0 m) d).trans (show at1 m d main_v0 = selV m d from Function.update_self _ _ _).symm
  · exact (afterTc_ne (bufs0 m) d b h).trans (at1_ne m d b h).symm

/-- The gather's operands among the TensorCore's buffers. -/
def trio : Finset (DevRef τ sig) := {(main_v1 : DevRef τ sig), (main_v13 : DevRef τ sig), (main_v14 : DevRef τ sig)}

theorem trio_sub : trio ⊆ Pipeline.ucRefs τ sig := by
  unfold trio Pipeline.ucRefs; decide

theorem held_trio (d : Dev nD) (V : Valuation τ sig (Elt F)) : (held (T d : Thread nD τ) trio V : sProp 𝕄)
    = iprop((tabLoc d ↦{fullShare} (V main_v1 : Buf (Elt F) (tabLoc d))) ∗ (idxLoc d ↦{fullShare} (V main_v13 : Buf (Elt F) (idxLoc d)))
      ∗ (outLoc d ↦{fullShare} (V main_v14 : Buf (Elt F) (outLoc d)))) := by
  unfold held trio
  rw [SparseCore.bigSep_insert' (by decide), SparseCore.bigSep_insert' (by decide), bigSep_singleton]

theorem rest_same (d : Dev nD) : (held (T d : Thread nD τ) (Pipeline.ucRefs τ sig \ trio) (at2 m d) : sProp 𝕄)
    = held (T d : Thread nD τ) (Pipeline.ucRefs τ sig \ trio) (at3 m d) :=
  held_congr _ fun b hb => (Function.update_of_ne (fun e => (Finset.mem_sdiff.mp hb).2 (by rw [e]; unfold trio; decide)) _ _).symm

/-- The buffers before the gather: its operands and the rest. -/
theorem before_gather (d : Dev nD) : (held (T d : Thread nD τ) (Pipeline.ucRefs τ sig) (at2 m d) : sProp 𝕄)
    = iprop((bigSep Finset.univ fun c : Fin ((KS F).nCore 0) => (P m).st 0 d c) ∗ held (T d : Thread nD τ) (Pipeline.ucRefs τ sig \ trio) (at3 m d)) := by
  rw [held_sub_split _ trio_sub, rest_same, held_trio, at2_tab, at2_ix, at2_out, st_eq]
theorem after_gather (d : Dev nD) : (held (T d : Thread nD τ) (Pipeline.ucRefs τ sig) (at3 m d) : sProp 𝕄)
    = iprop((bigSep Finset.univ fun c : Fin ((KS F).nCore 0) => (P m).dn 0 d c) ∗ held (T d : Thread nD τ) (Pipeline.ucRefs τ sig \ trio) (at3 m d)) := by
  rw [held_sub_split _ trio_sub, held_trio, at3_ne m d main_v1 (by decide), at3_ne m d main_v13 (by decide),
    show at3 m d main_v14 = newV m d from Function.update_self _ _ _, at2_tab, at2_ix, dn_eq]

/-- What the TensorCore keeps to the end. -/
abbrev FIN (d : Dev nD) : sProp 𝕄 := held (T d : Thread nD τ) (Pipeline.ucRefs τ sig) (at4 m d)

/-- The region's call, from the buffers at launch to the buffers with the selected half rows. -/
theorem region_call [∀ e, Nonempty (Elt F e)] (d : Dev nD) (Φ : PUnit.{1} → sProp 𝕄) :
    iprop(((boundary (T d) ∗ (held (T d : Thread nD τ) (Pipeline.ucRefs τ sig) (at1 m d) ∗ debtTc d)) -∗ Φ ⟨⟩)
        ∗ boundary (T d) ∗ (unscopedBufs d (bufs0 m d) ∗ debtTc d) ∗ levAts (KS F).L (KS F).lev ∗ pipeG (F := F) d)
      ⊢ wp frame (wpE ((KS F).defs (DP F)) 𝒱 (T d) none) Set.univ (Prog.lift (.customCall (SparseCore.inner (Pipeline.entry 0)) ())) Φ := by
  unfold pipeG
  iintro ⟨Hk, Hb, Hpre, Hlev, Hc, Ht⟩
  iapply ((KS F).wp_liftProg (DP F) 𝒱 (T d) Set.univ none (.op (.customCall (Pipeline.entry 0) ()) .ret) _)
  iapply (Pipeline.RegionSeg.wp (pcfgs (F := F)) adm (pdats (bufs0 m)) (none : HIx 1) pins_inj EP defs₀ 𝒱₀ (KS F).L (KS F).lev (region (bufs0 m)) d none
    (fun u hu => nomatch hu) .ret Φ) $$ [-]
  isplitl [Hk]
  · iintro ⟨Hb, Hp⟩
    rw [wp_ret]; imodintro
    ihave Hp := (Entails.of_eq (show (region (bufs0 m)).post d = iprop(unscopedBufs d (afterTc (bufs0 m) d) ∗ debtTc d) from rfl)) $$ Hp
    rw [after_region]
    iapply Hk
    isplitl [Hb] <;> iassumption
  isplitl [Hb]; · iexact Hb
  isplitl [Hpre]; · iapply (Entails.of_eq (show iprop(unscopedBufs d (bufs0 m d) ∗ debtTc d) = (region (bufs0 m)).pre d from rfl)) $$ Hpre
  isplitl [Hlev]; · iexact Hlev
  isplitl [Hc] <;> iassumption

theorem hmain [∀ e, Nonempty (Elt F e)] (κ : GSem nD τ sig → ℕ) (d : Dev nD) :
    iprop((KS F).ctx EH (P m) κ ∗ (KS F).tcSt EH d 0 ∗ (KS F).tcRes m ρ d ∗ pipeG d)
      ⊢ wp frame (wpE ((KS F).defs (DP F)) 𝒱 (T d) none) Set.univ (main d)
          fun _ => iprop((KS F).tcSt EH d 1 ∗ FIN m d ∗ (KS F).tcEnd d) := by
  unfold SparseCore.Cfg.tcRes SparseCore.Cfg.tcEnd
  rw [main_eq, wp_bind]
  iintro ⟨#Hctx, Hst, ⟨Hb, Hbufs, Hts, -⟩, HG⟩
  ihave #Hlev := (SparseCore.Cfg.ctx_levAts κ) $$ Hctx
  ihave Hst := (Entails.of_eq (show (KS F).tcSt EH d 0 = iprop(debtTc d ∗ _) from rfl)) $$ Hst
  icases Hst with ⟨HO, Hst⟩
  iapply (region_call m d _) $$ [-]
  isplitr [Hb Hbufs HO HG]
  · iintro ⟨Hb, Hheld, HO⟩
    iapply (wp_seq (defs := (KS F).defs (DP F)) 𝒱 none Set.univ d (Pipeline.ucRefs τ sig) _ hostOps hostOps_sub hostOps_fresh (at1 m d)) $$ [Hb Hheld]
    · isplitl [Hb] <;> iassumption
    iintro ⟨Hb, Hheld⟩
    ihave Hheld := (Entails.of_eq (show (held (d.tc : Thread nD τ) (Pipeline.ucRefs τ sig) (after hostOps (at1 m d)) : sProp 𝕄) = _ from before_gather m d)) $$ Hheld
    icases Hheld with ⟨Hops, Hrest⟩
    rw [wp_bind]
    iapply ((KS F).wp_run (DP F) 𝒱 (EH := EH) (P := P m) κ d 0) $$ [-]
    isplitr; · iexact Hctx
    isplitl [HO Hst]
    · iapply (Entails.of_eq (show iprop(debtTc d ∗ _) = (KS F).tcSt EH d 0 from rfl)) $$ [HO Hst]
      isplitl [HO] <;> iassumption
    isplitl [Hops]; · iexact Hops
    iintro ⟨Hst, Hops⟩
    iapply (wp_seq (defs := (KS F).defs (DP F)) 𝒱 none Set.univ d (Pipeline.ucRefs τ sig) Prog.ret lastOps lastOps_sub lastOps_fresh (at3 m d)) $$ [Hb Hops Hrest]
    · isplitl [Hb]; · iexact Hb
      rw [after_gather]
      isplitl [Hops] <;> iassumption
    iintro ⟨Hb, Hheld⟩
    rw [wp_ret]; imodintro
    isplitl [Hst]; · iexact Hst
    isplitl [Hheld]; · iexact Hheld
    isplitl [Hb] <;> iassumption
  isplitl [Hb]; · iexact Hb
  isplitl [Hbufs HO]; · isplitl [Hbufs] <;> iassumption
  isplitr; · iexact Hlev
  iexact HG

/-- What the run leaves in a device's memory. -/
def fq (d : Dev nD) (s' : Phys nD τ sig (Elt F)) : Prop :=
  s'.mem.mem ((d : Thread nD τ).loc main_v15) = (outV m d : Buf (Elt F) ((d : Thread nD τ).loc main_v15))
    ∧ s'.mem.mem ((d : Thread nD τ).loc main_arg0) = m ((d : Thread nD τ).loc main_arg0)
    ∧ s'.mem.mem ((d : Thread nD τ).loc main_arg1) = m ((d : Thread nD τ).loc main_arg1)
    ∧ s'.mem.mem ((d : Thread nD τ).loc main_arg2) = m ((d : Thread nD τ).loc main_arg2)

/-- A held buffer is what the memory holds. -/
theorem held_agree (d : Dev nD) (V : Valuation τ sig (Elt F)) (b : Ref sig .tc) (hb : (b : DevRef τ sig) ∈ Pipeline.ucRefs τ sig) (s' : Phys nD τ sig (Elt F)) :
    iprop(held (T d : Thread nD τ) (Pipeline.ucRefs τ sig) V ∗ SI s') ⊢ (⌜s'.mem.mem ((d : Thread nD τ).loc b) = V b⌝ : sProp 𝕄) := by
  have hel : (held (T d : Thread nD τ) (Pipeline.ucRefs τ sig) V : sProp 𝕄) ⊢ (((d : Thread nD τ).loc b) ↦{fullShare} (V b : Buf (Elt F) ((d : Thread nD τ).loc b))) := by
    unfold held; exact bigSep_elim (Φ := fun b : DevRef τ sig => (((d, b) : Loc nD τ sig) ↦{fullShare} V b : sProp 𝕄)) hb
  iintro ⟨H, HSI⟩
  ihave H := hel $$ H
  ihave H := (SI_pointsTo_agree (st := s') (ℓ := (d : Thread nD τ).loc b) (I := Finset.univ) (q := fullShare) (f := V b)) $$ [HSI H]
  · isplitl [HSI] <;> iassumption
  icases H with %h
  ipureintro; exact funext fun i => h i (Finset.mem_univ i)

theorem hfin (d : Dev nD) (s' : Phys nD τ sig (Elt F)) : iprop(FIN m d ∗ SI s') ⊢ (⌜fq m d s'⌝ : sProp 𝕄) := by
  iintro H
  ihave H := (persistent_entails_right (held_agree d (at4 m d) main_v15 (by decide) s')) $$ H
  icases H with ⟨%h, H⟩
  ihave H := (persistent_entails_right (held_agree d (at4 m d) main_arg0 (by decide) s')) $$ H
  icases H with ⟨%h0, H⟩
  ihave H := (persistent_entails_right (held_agree d (at4 m d) main_arg1 (by decide) s')) $$ H
  icases H with ⟨%h1, H⟩
  ihave H := (held_agree d (at4 m d) main_arg2 (by decide) s') $$ H
  icases H with %h2
  ipureintro
  exact ⟨h.trans (at4_res m d), h0.trans (at4_arg0 m d), h1.trans (at4_arg1 m d), h2.trans (at4_arg2 m d)⟩

/-- The whole program's run: every device ends with its result at `outV`, its arguments unchanged and every semaphore at rest. -/
theorem run_main [∀ e, Nonempty (Elt F e)] :
    θ_run (defs (F := F)) (threads (F := F)) ⟨m, fun _ => 0, ρ⟩ fun r =>
      (∀ d : Dev nD, r.2.mem ((d : Thread nD τ).loc main_v15) = (outV m d : Buf (Elt F) ((d : Thread nD τ).loc main_v15))
        ∧ r.2.mem ((d : Thread nD τ).loc main_arg0) = m ((d : Thread nD τ).loc main_arg0)
        ∧ r.2.mem ((d : Thread nD τ).loc main_arg1) = m ((d : Thread nD τ).loc main_arg1)
        ∧ r.2.mem ((d : Thread nD τ).loc main_arg2) = m ((d : Thread nD τ).loc main_arg2)) ∧ r.2.sem = fun _ => 0 :=
  SparseCore.Cfg.θ_run_sc_quiescent (K := KS F) (D := DP F) (𝒱 := 𝒱) (EH := EH) (P := P m) (A := ∅) scFacts v₀
    (fun q hq => match q with | 0 => nomatch hq)
    (fun q _ => match q with | 0 => tileObl m scFacts)
    (fun q _ => match q with | 0 => SparseCore.Cfg.VecSplit.of_plain (vecSplit m))
    m ρ main pipeG (FIN m) (u₀ (F := F)) (sep_elim_left.trans (hu₀ m)) (hmain m ρ) (fq m) (hfin m) _ (fun _ h hz => ⟨h, hz⟩)

end Cert.KernelIdeal.Run
end
-- ==== Proof.Frames.lean ====
/-
  The frames of the three programs, out of their runs.
-/
module

public import proofs.«01_k».proof.Defs
public import proofs.«01_k».proof.Proof.Gen.ReferenceIdeal.Run
public import proofs.«01_k».proof.Proof.Gen.ReferenceIdeal
public import proofs.«01_k».proof.Proof.KernelRun.Launch
public import proofs.«01_k».proof.Proof.IdealRun.Launch
public import Idealize.ShloMosaic.Lib.Quiescent

@[expose] public section

noncomputable section

namespace Cert.Proof

open Idealize.ShloMosaic Idealize.SL.Sem

theorem frame_kernel : @Cert.quiescent_Kernel Cert.Kernel.Gen.facts := fun m ρ _ =>
  (θ_run Cert.Kernel.defs _ _).mono (fun _ h => ⟨fun c => (h.1 c).2, h.2⟩) (Cert.Kernel.Run.run_main (F := Bits) m ρ)

theorem frame_ideal : @Cert.quiescent_KernelIdeal Cert.KernelIdeal.Gen.facts := fun m ρ _ =>
  (θ_run Cert.KernelIdeal.defs _ _).mono (fun _ h => ⟨fun c => (h.1 c).2, h.2⟩) (Cert.KernelIdeal.Run.run_main (F := Ideal) m ρ)

/-- The reference runs on the host alone and has no semaphore. -/
theorem frame_reference : @Cert.quiescent_ReferenceIdeal Cert.ReferenceIdeal.Gen.facts := fun m ρ _ =>
  (θ_run Cert.ReferenceIdeal.defs _ _).mono (fun r h => ⟨fun c => (h c).2, sem_eq_zero_of_no_sems rfl r.2⟩) (Cert.ReferenceIdeal.Value.run (F := Ideal) m ρ)

end Cert.Proof

end
-- ==== Proof.Top.lean ====
/-
  The four best of a row of scores: what the selection means, that it is unique, that a stable descending sort begins with it, and that it can be
  taken from the four best of each block.
-/
module

public import Idealize.ShloMosaic.Lib.SortFacts
public import Mathlib.Data.EReal.Basic

@[expose] public section

namespace Cert.Top

open Idealize.ShloMosaic

variable {N : ℕ} (s : Fin N → EReal)

/-- `a` comes before `b`: a greater score, or the same score and a lesser position. -/
def Better (a b : Fin N) : Prop := s b < s a ∨ s b = s a ∧ a < b

theorem Better.asymm {s : Fin N → EReal} {a b : Fin N} (h : Better s a b) (h' : Better s b a) : False := by
  rcases h with h | ⟨e, h⟩ <;> rcases h' with h' | ⟨e', h'⟩
  · exact absurd h' (lt_asymm h)
  · exact absurd e' h.ne'
  · exact absurd e h'.ne'
  · exact absurd h' (lt_asymm h)

theorem Better.trans {s : Fin N → EReal} {a b c : Fin N} (h : Better s a b) (h' : Better s b c) : Better s a c := by
  rcases h with h | ⟨e, h⟩ <;> rcases h' with h' | ⟨e', h'⟩
  · exact Or.inl (h'.trans h)
  · exact Or.inl (e' ▸ h)
  · exact Or.inl (e ▸ h')
  · exact Or.inr ⟨e'.trans e, h.trans h'⟩

theorem better_total {a b : Fin N} (h : a ≠ b) : Better s a b ∨ Better s b a := by
  rcases lt_trichotomy (s a) (s b) with h' | h' | h'
  · exact Or.inr (Or.inl h')
  · rcases lt_or_gt_of_ne h with h'' | h''
    · exact Or.inl (Or.inr ⟨h'.symm, h''⟩)
    · exact Or.inr (Or.inr ⟨h', h''⟩)
  · exact Or.inl (Or.inl h')

/-- `p` is the best position of `A`. -/
def Best (A : Finset (Fin N)) (p : Fin N) : Prop := p ∈ A ∧ ∀ e ∈ A, e = p ∨ Better s p e

theorem Best.unique {s : Fin N → EReal} {A : Finset (Fin N)} {p q : Fin N} (hp : Best s A p) (hq : Best s A q) : p = q := by
  rcases hp.2 q hq.1 with h | h
  · exact h.symm
  rcases hq.2 p hp.1 with h' | h'
  · exact h'
  exact (h.asymm h').elim

/-- What is left of `A` after the first `k` of the positions `p`. -/
def rest (A : Finset (Fin N)) (p : ℕ → Fin N) : ℕ → Finset (Fin N)
  | 0 => A
  | k + 1 => (rest A p k).erase (p k)

theorem mem_rest {A : Finset (Fin N)} {p : ℕ → Fin N} {k : ℕ} {e : Fin N} : e ∈ rest A p k ↔ e ∈ A ∧ ∀ j < k, e ≠ p j := by
  induction k with
  | zero => exact ⟨fun h => ⟨h, fun j hj => absurd hj (Nat.not_lt_zero j)⟩, fun h => h.1⟩
  | succ k ih =>
    rw [rest, Finset.mem_erase, ih]
    exact ⟨fun h => ⟨h.2.1, fun j hj => (Nat.lt_succ_iff_lt_or_eq.mp hj).elim (h.2.2 j) fun e => e ▸ h.1⟩,
      fun h => ⟨h.2 k (Nat.lt_succ_self k), h.1, fun j hj => h.2 j (hj.trans (Nat.lt_succ_self k))⟩⟩

theorem card_rest (A : Finset (Fin N)) (p : ℕ → Fin N) (k : ℕ) : A.card ≤ (rest A p k).card + k := by
  induction k with
  | zero => exact le_rfl
  | succ k ih =>
    have := Finset.pred_card_le_card_erase (a := p k) (s := rest A p k)
    rw [rest]; omega

theorem rest_nonempty {A : Finset (Fin N)} (p : ℕ → Fin N) {k : ℕ} (h : k < A.card) : (rest A p k).Nonempty := by
  have := card_rest A p k
  exact Finset.card_pos.mp (by omega)

/-- The first `n` of the positions `p` are the `n` best of `A`, best first. -/
def Leads (A : Finset (Fin N)) (n : ℕ) (p : ℕ → Fin N) : Prop := ∀ k < n, Best s (rest A p k) (p k)

theorem rest_congr {A : Finset (Fin N)} {p q : ℕ → Fin N} {k : ℕ} (h : ∀ j < k, p j = q j) : rest A p k = rest A q k := by
  ext e
  rw [mem_rest, mem_rest]
  exact and_congr_right fun _ => forall₂_congr fun j hj => by rw [h j hj]

theorem Leads.unique {s : Fin N → EReal} {A : Finset (Fin N)} {n : ℕ} {p q : ℕ → Fin N} (hp : Leads s A n p) (hq : Leads s A n q) :
    ∀ k < n, p k = q k := by
  intro k
  induction k using Nat.strong_induction_on with
  | _ k ih =>
    intro hk
    have e : rest A p k = rest A q k := rest_congr fun j hj => ih j hj (hj.trans hk)
    exact (hp k hk).unique (e ▸ hq k hk)

theorem Leads.ne {s : Fin N → EReal} {A : Finset (Fin N)} {n : ℕ} {p : ℕ → Fin N} (hp : Leads s A n p) {j k : ℕ} (hj : j < k) (hk : k < n) : p k ≠ p j :=
  (mem_rest.mp (hp k hk).1).2 j hj

/-- The best of a set, from the `n` best of each of the blocks `B i` that make it up: `q` leads the blocks' leaders, so it leads the set. -/
theorem leads_of_blocks {I : Type} [Fintype I] [DecidableEq I] (A : Finset (Fin N)) (B : I → Finset (Fin N)) (hB : ∀ e, e ∈ A ↔ ∃ i, e ∈ B i)
    (n : ℕ) (p : I → ℕ → Fin N) (hp : ∀ i, Leads s (B i) n (p i)) (C : Finset (Fin N)) (hC : ∀ e, e ∈ C ↔ ∃ i, ∃ k < n, e = p i k)
    (q : ℕ → Fin N) (hq : Leads s C n q) : Leads s A n q := by
  intro k hk
  have hCA : ∀ e ∈ C, e ∈ A := fun e he => by
    obtain ⟨i, j, hj, rfl⟩ := (hC e).mp he
    exact (hB _).mpr ⟨i, (mem_rest.mp (hp i j hj).1).1⟩
  refine ⟨mem_rest.mpr ⟨hCA _ (mem_rest.mp (hq k hk).1).1, (mem_rest.mp (hq k hk).1).2⟩, fun e he => ?_⟩
  obtain ⟨heA, hne⟩ := mem_rest.mp he
  by_cases heC : e ∈ C
  · exact (hq k hk).2 e (mem_rest.mpr ⟨heC, hne⟩)
  obtain ⟨i, hi⟩ := (hB e).mp heA
  have hbetter : ∀ j < n, Better s (p i j) e := fun j hj => by
    rcases (hp i j hj).2 e (mem_rest.mpr ⟨hi, fun j' hj' h => heC ((hC e).mpr ⟨i, j', hj'.trans hj, h⟩)⟩) with h | h
    · exact absurd ((hC e).mpr ⟨i, j, hj, h⟩) heC
    · exact h
  -- one of the block's `k + 1` best is not among the first `k` of `q`
  obtain ⟨j, hj, hjq⟩ : ∃ j < n, ∀ j' < k, p i j ≠ q j' := by
    by_contra hno
    have hno : ∀ j < n, ∃ j' < k, p i j = q j' := fun j hj => by
      by_contra h; exact hno ⟨j, hj, fun j' hj' e => h ⟨j', hj', e⟩⟩
    have hsub : (Finset.range n).image (p i) ⊆ (Finset.range k).image q := fun x hx => by
      obtain ⟨j, hj, rfl⟩ := Finset.mem_image.mp hx
      obtain ⟨j', hj', e⟩ := hno j (Finset.mem_range.mp hj)
      exact Finset.mem_image.mpr ⟨j', Finset.mem_range.mpr hj', e.symm⟩
    have h1 := Finset.card_le_card hsub
    rw [Finset.card_image_of_injOn, Finset.card_range] at h1
    · have h2 := Finset.card_image_le (s := Finset.range k) (f := q)
      rw [Finset.card_range] at h2; omega
    · intro a ha b hb hab
      have ha := Finset.mem_range.mp ha
      have hb := Finset.mem_range.mp hb
      rcases lt_trichotomy a b with h | h | h
      · exact absurd hab.symm ((hp i).ne h hb)
      · exact h
      · exact absurd hab ((hp i).ne h ha)
  rcases (hq k hk).2 (p i j) (mem_rest.mpr ⟨(hC _).mpr ⟨i, j, hj, rfl⟩, hjq⟩) with h | h
  · exact Or.inr (h ▸ hbetter j hj)
  · exact Or.inr (h.trans (hbetter j hj))

/-! ## A stable descending sort -/

open Classical in
/-- `Better` as a decision. -/
noncomputable def betterB (a b : Fin N) : Bool := decide (Better s a b)

theorem betterB_iff (a b : Fin N) : betterB s a b = true ↔ Better s a b := by unfold betterB; exact @decide_eq_true_iff _ (Classical.propDecidable _)
theorem betterB_false (a b : Fin N) : betterB s a b = false ↔ ¬ Better s a b := by rw [← betterB_iff]; simp

/-- Among positions that ascend, sorting by the scores alone and stably is sorting by `Better`. -/
theorem stableSort_eq (B : Fin N → Fin N → Bool) (hB : ∀ a b, B a b = true ↔ s b < s a) (l : List (Fin N)) (hl : l.Pairwise (· < ·)) :
    stableSort B l = stableSort (betterB s) l := by
  have hins : ∀ (a : Fin N) (l : List (Fin N)), (∀ b ∈ l, a < b) → insertBefore B a l = insertBefore (betterB s) a l := by
    intro a l
    induction l with
    | nil => intro _; rfl
    | cons b l ih =>
      intro h
      have e : B b a = betterB s b a := by
        rw [Bool.eq_iff_iff, hB, betterB_iff]
        unfold Better
        exact ⟨Or.inl, fun h' => h'.elim id fun h' => absurd h'.2 (lt_asymm (h b List.mem_cons_self))⟩
      unfold insertBefore
      rw [e, ih fun b hb => h b (List.mem_cons_of_mem _ hb)]
  induction l with
  | nil => rfl
  | cons a l ih =>
    rw [List.pairwise_cons] at hl
    unfold stableSort
    rw [hins a _ fun b hb => hl.1 b ((perm_stableSort B l).mem_iff.mp hb), ih hl.2]

/-- The positions that a stable descending sort puts first lead all positions. -/
theorem leads_sortedFrom (B : Fin N → Fin N → Bool) (hB : ∀ a b, B a b = true ↔ s b < s a) (h0 : 0 < N) (n : ℕ) (hn : n ≤ N) :
    Leads s Finset.univ n fun k => sortedFrom B (if h : k < N then ⟨k, h⟩ else ⟨0, h0⟩) := by
  have e : sortedFrom B = sortedFrom (betterB s) := by
    funext k
    unfold sortedFrom
    have : sortPositions N B = sortPositions N (betterB s) := stableSort_eq s B hB _ (List.pairwise_lt_finRange N)
    exact List.get_of_eq this _
  have hord : ∀ i j : Fin N, i < j → Better s (sortedFrom B i) (sortedFrom B j) := fun i j hij => by
    have h := sortedFrom_noInversion (betterB s) (betterB s)
      (fun a b h => (betterB_false s b a).mpr fun h' => ((betterB_iff s a b).mp h).asymm h')
      (fun a b h => h)
      (fun a b c hab hbc => by
        rw [betterB_false] at hab hbc ⊢
        intro hac
        by_cases h1 : a = b
        · exact hbc (h1 ▸ hac)
        by_cases h2 : b = c
        · exact hab (h2 ▸ hac)
        exact ((((better_total s h2).resolve_left hbc).trans ((better_total s h1).resolve_left hab)).asymm hac)) i j hij
    rw [e]
    have hne : sortedFrom (betterB s) i ≠ sortedFrom (betterB s) j := fun h => hij.ne (sortedFrom_injective _ h)
    exact (better_total s hne).resolve_right ((betterB_false s _ _).mp h)
  intro k hk
  have hkN : k < N := hk.trans_le hn
  refine ⟨mem_rest.mpr ⟨Finset.mem_univ _, fun j hj h => ?_⟩, fun x hx => ?_⟩
  · simp only [dif_pos hkN, dif_pos (hj.trans hkN)] at h
    exact absurd (congrArg Fin.val (sortedFrom_injective _ h)) hj.ne'
  · obtain ⟨i, rfl⟩ := sortedFrom_surjective B x
    have hx := (mem_rest.mp hx).2
    simp only [dif_pos hkN]
    rcases lt_trichotomy i.val k with h | h | h
    · exact absurd (by rw [dif_pos i.isLt]) (hx i.val h)
    · exact Or.inl (congrArg _ (Fin.ext h))
    · exact Or.inr (hord ⟨k, hkN⟩ i h)

end Cert.Top

end
-- ==== Proof.Value.Column.lean ====
/-
  One selection round over a column of extended reals: it takes the best position among those the column holds and leaves the rest.
-/
module

public import proofs.«01_k».proof.Proof.Top
public import proofs.«01_k».proof.Proof.IdealRun.Range
public import Idealize.ShloMosaic.PureOps.Ideal.Laws

@[expose] public section

noncomputable section

namespace Cert.Value

open Cert.KernelIdeal Cert.KernelIdeal.Gen Cert.KernelIdeal.Run Cert.Top
open Idealize.ShloMosaic Idealize.ShloMosaic.ValueIdx

/-- A position of the pool as a word. -/
def word (g : Fin 8192) : BitVec 32 := BitVec.ofNat 32 g.val

theorem word_toNat (g : Fin 8192) : (word g).toNat = g.val := by
  unfold word
  rw [BitVec.toNat_ofNat]
  exact Nat.mod_eq_of_lt (by have := g.isLt; omega)
theorem word_toInt (g : Fin 8192) : (word g).toInt = g.val := by
  rw [BitVec.toInt_eq_toNat_of_lt (by rw [word_toNat]; have := g.isLt; omega), word_toNat]
theorem word_injective : Function.Injective word := fun a b h => Fin.ext (by rw [← word_toNat a, h, word_toNat])

theorem neg_inf : Ideal.ofBits .f32 0xFF800000#32 = ⊥ := by simp [Ideal.ofBits, Ideal.ieee]

theorem select_eq {α : Type} (a b : EReal) (x y : α) : Scalar.select (FloatOps.cmpf (F := Ideal) (φ := .f32) .oeq a b) x y = if a = b then x else y := by
  show Scalar.select (BitVec.ofBool (decide (a = b))) x y = _
  unfold Scalar.select
  by_cases h : a = b <;> simp [h]
theorem select_word {α : Type} (a b : BitVec 32) (x y : α) : Scalar.select (IntOp.cmpi .eq a b) x y = if a = b then x else y := by
  unfold Scalar.select IntOp.cmpi
  by_cases h : a = b
  · simp [h]
  · have : (a == b) = false := beq_false_of_ne h
    simp [h, this]

/-- A fold of the maximum from −∞ bounds every term, and is −∞ or one of them. -/
theorem fold_max_spec {ι : Type} [DecidableEq ι] (g : ι → EReal) (s : Finset ι) :
    (∀ i ∈ s, g i ≤ s.fold max ⊥ g) ∧ (s.fold max ⊥ g = ⊥ ∨ ∃ i ∈ s, s.fold max ⊥ g = g i) := by
  induction s using Finset.induction_on with
  | empty => exact ⟨fun i hi => absurd hi (Finset.notMem_empty i), Or.inl Finset.fold_empty⟩
  | insert a s has ih =>
    obtain ⟨h1, h2⟩ := ih
    rw [Finset.fold_insert has]
    refine ⟨fun i hi => ?_, ?_⟩
    · rcases Finset.mem_insert.mp hi with rfl | hi
      · exact le_max_left _ _
      · exact (h1 i hi).trans (le_max_right _ _)
    · rcases max_choice (g a) (s.fold max ⊥ g) with h | h
      · exact Or.inr ⟨a, Finset.mem_insert_self _ _, h⟩
      · rcases h2 with h' | ⟨i, hi, h'⟩
        · exact Or.inl (h.trans h')
        · exact Or.inr ⟨i, Finset.mem_insert_of_mem hi, h.trans h'⟩

variable {n : ℕ}

theorem colMax_eq (hr : (Rows n).Reduces [0] S1024) (v : FVec Ideal (Rows n) .f32) (c : Fin 1024) :
    colMax hr v (ix2 0 c) = (Finset.univ : Finset (Fin n)).fold max ⊥ fun r => (v (ix2 r c) : EReal) := by
  unfold colMax
  refine (cast_row _ _ c).trans ?_
  classical
  refine (multiReduction_maximumf_eq_fold v _ hr _ _ (ix1 c)).trans ?_
  refine (hr.fold_filter_drop_single _ _ _ _).trans ?_
  rw [show FloatOps.ofBits (F := Ideal) .f32 0xFF800000#32 = (⊥ : EReal) from neg_inf]
  exact Finset.fold_congr fun (r : Fin n) _ => congrArg v (lift_row hr c r)

/-- Column `c` of the rows holds exactly the positions `A`, each with its score; every other row is at −∞. -/
def Holds (ix : IVec (Rows n) 32) (v : FVec Ideal (Rows n) .f32) (c : Fin 1024) (s : Fin 8192 → EReal) (A : Finset (Fin 8192)) : Prop :=
  (∀ r : Fin n, v (ix2 r c) = (⊥ : EReal) ∨ ∃ g ∈ A, ix (ix2 r c) = word g ∧ v (ix2 r c) = s g)
    ∧ ∀ g ∈ A, ∃ r : Fin n, ix (ix2 r c) = word g ∧ v (ix2 r c) = s g

/-- A round takes the best position and leaves the others. -/
theorem round_spec (hr : (Rows n).Reduces [0] S1024) (hb : S1x1024.Broadcasts (Rows n)) (ix : IVec (Rows n) 32) (v : FVec Ideal (Rows n) .f32) (c : Fin 1024)
    (s : Fin 8192 → EReal) (hs : ∀ g, s g ≠ ⊥) (A : Finset (Fin 8192)) (hA : A.Nonempty) (h : Holds ix v c s A) :
    ∃ p, Best s A p ∧ colMax hr v (ix2 0 c) = s p ∧ pickIdx hr hb ix v (ix2 0 c) = word p ∧ Holds ix (dropPicked hr hb ix v) c s (A.erase p) := by
  obtain ⟨hle, hmem⟩ := fold_max_spec (fun r : Fin n => (v (ix2 r c) : EReal)) Finset.univ
  rw [← colMax_eq hr] at hle hmem
  have hpick := pickIdx_apply hr hb ix v c
  generalize colMax hr v (ix2 0 c) = M at hle hmem hpick ⊢
  have hge : ∀ g ∈ A, s g ≤ M := fun g hg => by
    obtain ⟨r, -, e⟩ := h.2 g hg
    rw [← e]; exact hle r (Finset.mem_univ r)
  have hM : M ≠ ⊥ := by
    obtain ⟨g, hg⟩ := hA
    exact fun e => hs g (le_bot_iff.mp (e ▸ hge g hg))
  have halive : ∀ r : Fin n, v (ix2 r c) = M → ∃ g ∈ A, ix (ix2 r c) = word g ∧ s g = M := fun r e => by
    rcases h.1 r with h' | ⟨g, hg, h1, h2⟩
    · exact absurd (e.symm.trans h') hM
    · exact ⟨g, hg, h1, h2.symm.trans e⟩
  obtain ⟨r0, -, hr0⟩ := hmem.resolve_left hM
  obtain ⟨g0, -, hg0, -⟩ := halive r0 hr0.symm
  obtain ⟨hmin, hone⟩ := fold_minsi_spec (fun r : Fin n => Scalar.select (FloatOps.cmpf (F := Ideal) (φ := .f32) .oeq (v (ix2 r c)) M) (ix (ix2 r c)) 1073741824#32)
    Finset.univ 2147483647#32
  rw [← hpick] at hmin hone
  generalize hwdef : pickIdx hr hb ix v (ix2 0 c) = w at hmin hone
  have hbound : ∀ r g, v (ix2 r c) = M → ix (ix2 r c) = word g → w.toInt ≤ g.val := fun r g e e' => by
    have := hmin r (Finset.mem_univ r)
    rw [select_eq, if_pos e, e', word_toInt] at this
    exact this
  have hw0 := hbound r0 g0 hr0.symm hg0
  have hg0lt := g0.isLt
  obtain ⟨r1, hr1, hw⟩ : ∃ r, v (ix2 r c) = M ∧ w = ix (ix2 r c) := by
    rcases hone with e | ⟨r, -, e⟩
    · rw [e, show (2147483647#32 : BitVec 32).toInt = 2147483647 by decide] at hw0
      omega
    · rw [select_eq] at e
      by_cases e' : v (ix2 r c) = M
      · exact ⟨r, e', by rw [e, if_pos e']⟩
      · rw [if_neg e'] at e
        rw [e, show (1073741824#32 : BitVec 32).toInt = 1073741824 by decide] at hw0
        omega
  obtain ⟨p, hp, hwp, hsp⟩ := halive r1 hr1
  have hwp : w = word p := hw.trans hwp
  refine ⟨p, ⟨hp, fun e he => ?_⟩, hsp.symm, hwp, fun r => ?_, fun g hg => ?_⟩
  · rcases lt_or_eq_of_le (hge e he) with hlt | heq
    · exact Or.inr (Or.inl (by rw [hsp]; exact hlt))
    · obtain ⟨r, h1, h2⟩ := h.2 e he
      have := hbound r e (h2.trans heq) h1
      rw [hwp, word_toInt] at this
      rcases eq_or_lt_of_le (show p.val ≤ e.val by omega) with e' | e'
      · exact Or.inl (Fin.ext e'.symm)
      · exact Or.inr (Or.inr ⟨heq.trans hsp.symm, e'⟩)
  · rw [dropPicked_apply, select_word]
    by_cases e : ix (ix2 r c) = pickIdx hr hb ix v (ix2 0 c)
    · rw [if_pos e]; exact Or.inl neg_inf
    · rw [if_neg e]
      rcases h.1 r with h' | ⟨g, hg, h1, h2⟩
      · exact Or.inl h'
      · refine Or.inr ⟨g, Finset.mem_erase.mpr ⟨fun hgp => e ?_, hg⟩, h1, h2⟩
        rw [hwdef, hwp, h1, hgp]
  · obtain ⟨hgp, hg⟩ := Finset.mem_erase.mp hg
    obtain ⟨r, h1, h2⟩ := h.2 g hg
    refine ⟨r, h1, ?_⟩
    rw [dropPicked_apply, select_word, if_neg, h2]
    rw [hwdef, hwp, h1]
    exact fun e => hgp (word_injective e)

end Cert.Value

end
-- ==== Proof.Value.Chosen.lean ====
/-
  The rows that the scoring kernel chooses: the four best of every block, and the four best of all.
-/
module

public import proofs.«01_k».proof.Proof.Value.Column
public import proofs.«01_k».proof.Proof.IdealRun.TcDat

@[expose] public section

noncomputable section

namespace Cert.Value

open Cert.KernelIdeal Cert.KernelIdeal.Gen Cert.KernelIdeal.Run Cert.Top
open Idealize.ShloMosaic Idealize.ShloMosaic.ValueIdx

variable {n : ℕ}

/-- `m` rounds, one after another, take the `m` best positions in order. -/
theorem rounds_spec (hr : (Rows n).Reduces [0] S1024) (hb : S1x1024.Broadcasts (Rows n)) (ix : IVec (Rows n) 32) (v : FVec Ideal (Rows n) .f32) (c : Fin 1024)
    (s : Fin 8192 → EReal) (hs : ∀ g, s g ≠ ⊥) (A : Finset (Fin 8192)) (h : Holds ix v c s A) (m : ℕ) (hm : m ≤ A.card) :
    ∃ p : ℕ → Fin 8192, (∀ k < m, Best s (rest A p k) (p k) ∧ colMax hr ((dropPicked hr hb ix)^[k] v) (ix2 0 c) = s (p k)
        ∧ pickIdx hr hb ix ((dropPicked hr hb ix)^[k] v) (ix2 0 c) = word (p k))
      ∧ Holds ix ((dropPicked hr hb ix)^[m] v) c s (rest A p m) := by
  induction m with
  | zero => exact ⟨fun _ => 0, fun k hk => absurd hk (Nat.not_lt_zero k), h⟩
  | succ m ih =>
    obtain ⟨p, hp, hold⟩ := ih (by omega)
    obtain ⟨q, hq, hmax, hpick, hleft⟩ := round_spec hr hb ix _ c s hs _ (rest_nonempty p (by omega)) hold
    have hne : ∀ j < m, p j = Function.update p m q j := fun j hj => (Function.update_of_ne hj.ne q p).symm
    have hat : Function.update p m q m = q := Function.update_self m q p
    have hrest : ∀ k ≤ m, rest A p k = rest A (Function.update p m q) k := fun k hk => rest_congr fun j hj => hne j (hj.trans_le hk)
    refine ⟨Function.update p m q, fun k hk => ?_, ?_⟩
    · rcases Nat.lt_succ_iff_lt_or_eq.mp hk with hk | rfl
      · rw [← hrest k hk.le, ← hne k hk]; exact hp k hk
      · rw [← hrest k le_rfl, hat]; exact ⟨hq, hmax, hpick⟩
    · rw [Function.iterate_succ_apply']
      show Holds ix _ c s ((rest A (Function.update p m q) m).erase (Function.update p m q m))
      rw [← hrest m le_rfl, hat]
      exact hleft

/-! ## One block -/

/-- Row `r` of block `t`. -/
def pos (t : Fin 16) (r : Fin 512) : Fin 8192 := ⟨512 * t.val + r.val, by have := t.isLt; have := r.isLt; omega⟩
/-- The positions of block `t`. -/
def blockSet (t : Fin 16) : Finset (Fin 8192) := Finset.univ.image (pos t)

theorem pos_injective (t : Fin 16) : Function.Injective (pos t) := fun a b h => Fin.ext (by have := congrArg Fin.val h; simp only [pos] at this; omega)
theorem mem_blocks (e : Fin 8192) : e ∈ (Finset.univ : Finset (Fin 8192)) ↔ ∃ t, e ∈ blockSet t := by
  refine ⟨fun _ => ⟨⟨e.val / 512, by have := e.isLt; omega⟩, Finset.mem_image.mpr ⟨⟨e.val % 512, by omega⟩, Finset.mem_univ _, Fin.ext ?_⟩⟩, fun _ => Finset.mem_univ e⟩
  show 512 * (e.val / 512) + e.val % 512 = e.val
  omega
theorem blockSet_card (t : Fin 16) : (blockSet t).card = 512 := by
  unfold blockSet
  rw [Finset.card_image_of_injective _ (pos_injective t), Finset.card_univ, Fintype.card_fin]

theorem rowIdx_word (t : Fin 16) (r : Fin 512) (c : Fin 1024) : rowIdx (grid0.coords (ptOf t)) (ix2 r c) = word (pos t r) :=
  BitVec.eq_of_toNat_eq (by rw [rowIdx_toNat, word_toNat, coords_zero]; rfl)

/-- A block holds its positions. -/
theorem holds_block (t : Fin 16) (v : FVec Ideal S512x1024 .f32) (c : Fin 1024) (s : Fin 8192 → EReal) (hv : ∀ r : Fin 512, v (ix2 r c) = s (pos t r)) :
    Holds (n := 512) (rowIdx (grid0.coords (ptOf t))) v c s (blockSet t) :=
  ⟨fun r => Or.inr ⟨pos t r, Finset.mem_image_of_mem _ (Finset.mem_univ r), rowIdx_word t r c, hv r⟩,
   fun g hg => by
    obtain ⟨r, -, rfl⟩ := Finset.mem_image.mp hg
    exact ⟨r, rowIdx_word t r c, hv r⟩⟩

/-- A block's candidates are its four best. -/
theorem block_spec (t : Fin 16) (v : FVec Ideal S512x1024 .f32) (c : Fin 1024) (s : Fin 8192 → EReal) (hs : ∀ g, s g ≠ ⊥) (hv : ∀ r : Fin 512, v (ix2 r c) = s (pos t r)) :
    ∃ p : ℕ → Fin 8192, Leads s (blockSet t) 4 p
      ∧ ∀ k : Fin 4, bestVals v (grid0.coords (ptOf t)) (ix3 0 ⟨k.val, by omega⟩ c) = s (p k.val)
        ∧ bestIdxs (F := Ideal) v (grid0.coords (ptOf t)) (ix3 0 ⟨k.val, by omega⟩ c) = word (p k.val) := by
  obtain ⟨p, hp, -⟩ := rounds_spec (n := 512) reduces_S512x1024_S1024 broadcasts_S1x1024_S512x1024 _ v c s hs _ (holds_block t v c s hv) 4 (by rw [blockSet_card]; omega)
  refine ⟨p, fun k hk => (hp k hk).1, fun k => ⟨(bestVals_row _ _ k c).trans (hp k.val k.isLt).2.1, (bestIdxs_row _ _ k c).trans (hp k.val k.isLt).2.2⟩⟩

/-! ## The merge -/

theorem cast_cands {α : Type} (x : S16x8x1024.Idx → α) (h : S16x8x1024.ShapeCasts S128x1024) (r : Fin 128) (t : Fin 16) (k : Fin 8) (c : Fin 1024)
    (e : r.val = 8 * t.val + k.val) : shapeCast S128x1024 x h (ix2 r c) = x (ix3 t k c) :=
  shapeCast_apply x h _ _ (by
    rw [Shape.rowMajor_val_two, Shape.rowMajor_val_three]
    show (t.val * 8 + k.val) * 1024 + c.val = r.val * 1024 + c.val
    rw [e]
    omega)

/-- What the kernel chooses for query `c`: the half rows of the four best keys. -/
theorem chosen_spec (x : Vec Ideal S1024x768 .f32) (keys : S8192x768.Idx → Ideal .f32) (c : Fin 1024) (s : Fin 8192 → EReal) (hs : ∀ g, s g ≠ ⊥)
    (hd : ∀ (t : Fin 16) (r : Fin 512), dist (F := Ideal) x (kblk keys (ptOf t)) (ix2 r c) = s (pos t r)) :
    ∃ q : ℕ → Fin 8192, Leads s Finset.univ 4 q
      ∧ ∀ k : Fin 4, chosen x keys (ix2 ⟨2 * k.val, by omega⟩ c) = IntOp.muli 2#32 (word (q k.val))
        ∧ chosen x keys (ix2 ⟨2 * k.val + 1, by omega⟩ c) = IntOp.addi (IntOp.muli 2#32 (word (q k.val))) 1#32 := by
  choose p hp hpk using fun t => block_spec t _ c s hs (hd t)
  let C : Finset (Fin 8192) := Finset.univ.image fun tk : Fin 16 × Fin 4 => p tk.1 tk.2.val
  have hC : ∀ e, e ∈ C ↔ ∃ t, ∃ k < 4, e = p t k := fun e => by
    refine ⟨fun h => ?_, fun ⟨t, k, hk, h⟩ => Finset.mem_image.mpr ⟨(t, ⟨k, hk⟩), Finset.mem_univ _, h.symm⟩⟩
    obtain ⟨⟨t, k⟩, -, rfl⟩ := Finset.mem_image.mp h
    exact ⟨t, k.val, k.isLt, rfl⟩
  have hhold : Holds (n := 128) (k0_pay5 (F := Ideal) (candIdxs x keys)) (k0_pay4 (candVals x keys)) c s C := by
    refine ⟨fun r => ?_, fun g hg => ?_⟩
    · have hr := r.isLt
      have hv := cast_cands (candVals x keys) shapeCasts_S16x8x1024_S128x1024 r ⟨r.val / 8, by omega⟩ ⟨r.val % 8, by omega⟩ c (by show r.val = 8 * (r.val / 8) + r.val % 8; omega)
      have hi := cast_cands (candIdxs x keys) shapeCasts_S16x8x1024_S128x1024 r ⟨r.val / 8, by omega⟩ ⟨r.val % 8, by omega⟩ c (by show r.val = 8 * (r.val / 8) + r.val % 8; omega)
      by_cases hk : r.val % 8 < 4
      · exact Or.inr ⟨p ⟨r.val / 8, by omega⟩ (r.val % 8), (hC _).mpr ⟨_, _, hk, rfl⟩,
          hi.trans (hpk ⟨r.val / 8, by omega⟩ ⟨r.val % 8, hk⟩).2, hv.trans (hpk ⟨r.val / 8, by omega⟩ ⟨r.val % 8, hk⟩).1⟩
      · refine Or.inl (hv.trans ?_)
        have := bestVals_pad (dist x (kblk keys (ptOf ⟨r.val / 8, by omega⟩))) (grid0.coords (ptOf ⟨r.val / 8, by omega⟩)) ⟨r.val % 8 - 4, by omega⟩ c
        refine Eq.trans ?_ (this.trans neg_inf)
        refine congrArg (fun k : Fin 8 => bestVals (dist x (kblk keys (ptOf ⟨r.val / 8, by omega⟩))) (grid0.coords (ptOf ⟨r.val / 8, by omega⟩)) (ix3 0 k c)) (Fin.ext ?_)
        show r.val % 8 = r.val % 8 - 4 + 4
        omega
    · obtain ⟨t, k, hk, rfl⟩ := (hC g).mp hg
      have ht := t.isLt
      exact ⟨⟨8 * t.val + k, by omega⟩, (cast_cands (candIdxs x keys) shapeCasts_S16x8x1024_S128x1024 _ t ⟨k, by omega⟩ c rfl).trans (hpk t ⟨k, hk⟩).2,
        (cast_cands (candVals x keys) shapeCasts_S16x8x1024_S128x1024 _ t ⟨k, by omega⟩ c rfl).trans (hpk t ⟨k, hk⟩).1⟩
  have hcard : 4 ≤ C.card := by
    have hsub : (Finset.univ.image fun k : Fin 4 => p 0 k.val) ⊆ C := fun e he => by
      obtain ⟨k, -, rfl⟩ := Finset.mem_image.mp he
      exact (hC _).mpr ⟨0, k.val, k.isLt, rfl⟩
    have hinj : Function.Injective fun k : Fin 4 => p 0 k.val := fun a b h => by
      rcases lt_trichotomy a.val b.val with h' | h' | h'
      · exact ((hp 0).ne h' b.isLt h.symm).elim
      · exact Fin.ext h'
      · exact ((hp 0).ne h' a.isLt h).elim
    have := Finset.card_le_card hsub
    rwa [Finset.card_image_of_injective _ hinj, Finset.card_univ, Fintype.card_fin] at this
  obtain ⟨q, hq, -⟩ := rounds_spec (n := 128) reduces_S128x1024_S1024 broadcasts_S1x1024_S128x1024 _ _ c s hs C hhold 4 hcard
  refine ⟨q, leads_of_blocks s Finset.univ blockSet mem_blocks 4 p hp C hC q fun k hk => (hq k hk).1, fun k => ⟨?_, ?_⟩⟩
  · exact (pick_even _ _ k c).trans (congrArg (IntOp.muli 2#32) (hq k.val k.isLt).2.2)
  · exact (pick_odd _ _ k c).trans (congrArg (fun w => IntOp.addi (IntOp.muli 2#32 w) 1#32) (hq k.val k.isLt).2.2)

end Cert.Value

end
-- ==== Proof.Value.Unit.lean ====
/-
  Rows scaled to unit length over the extended reals. A scaled row is always real: a row with an infinite entry has an infinite sum of squares, and
  the reciprocal square root of that is zero. The negated inner product of two scaled rows is therefore never −∞.
-/
module

public import Idealize.ShloMosaic.PureOps.Ideal.Laws

@[expose] public section

noncomputable section

namespace Cert.Value

open Idealize.ShloMosaic

/-- The bound below which a sum of squares is not let fall. -/
def eps : EReal := Ideal.ofBits .f32 0x2B8CBCCC#32

theorem eps_pos : ∃ e : ℝ, 0 < e ∧ eps = (e : EReal) := by
  unfold eps
  simp only [Ideal.ofBits, Ideal.ieee]
  norm_num
  rw [show 730643660 >>> 23 % 256 = 87 from rfl, if_neg (by decide), if_neg (by decide), if_neg (by decide)]
  exact ⟨_, by positivity, rfl⟩

variable {n : ℕ}

/-- Entry `d` of the row `r` scaled to unit length. -/
def unitOf (r : Fin n → EReal) (d : Fin n) : EReal := r d * Ideal.rsqrt (max (∑ k, r k * r k) eps)

theorem coe_sum {ι : Type} (s : Finset ι) (f : ι → ℝ) : ∑ i ∈ s, ((f i : ℝ) : EReal) = ((∑ i ∈ s, f i : ℝ) : EReal) := by
  classical
  induction s using Finset.induction_on with
  | empty => rfl
  | insert a s ha ih => rw [Finset.sum_insert ha, Finset.sum_insert ha, ih, EReal.coe_add]

theorem square_nonneg (a : EReal) : 0 ≤ a * a := by
  induction a with
  | bot => simp
  | top => simp
  | coe a => rw [← EReal.coe_mul]; exact_mod_cast mul_self_nonneg a

theorem unitOf_real (r : Fin n → EReal) (d : Fin n) : ∃ y : ℝ, unitOf r d = (y : EReal) := by
  unfold unitOf
  by_cases h : ∀ k, ∃ y : ℝ, r k = (y : EReal)
  · choose y hy using h
    obtain ⟨e, he, heq⟩ := eps_pos
    have hsum : ∑ k, r k * r k = ((∑ k, y k * y k : ℝ) : EReal) := by
      rw [← coe_sum]
      exact Finset.sum_congr rfl fun k _ => by rw [hy k, EReal.coe_mul]
    have hm : 0 < max (∑ k, y k * y k) e := he.trans_le (le_max_right _ _)
    rw [hsum, heq, ← EReal.coe_strictMono.monotone.map_max, Ideal.rsqrt_coe, if_neg (not_lt.mpr hm.le), if_neg hm.ne', hy d, ← EReal.coe_mul]
    exact ⟨_, rfl⟩
  · push Not at h
    obtain ⟨k, hk⟩ := h
    have hkk : r k * r k = ⊤ := by
      generalize r k = a at hk
      induction a with
      | bot => rfl
      | top => rfl
      | coe a => exact absurd rfl (hk a)
    have hsum : ∑ k, r k * r k = ⊤ :=
      top_le_iff.mp (hkk ▸ Finset.single_le_sum (f := fun k => r k * r k) (fun i _ => square_nonneg (r i)) (Finset.mem_univ k))
    rw [hsum, max_eq_left le_top, Ideal.rsqrt_top, mul_zero]
    exact ⟨0, rfl⟩

/-- The distance of two rows: the negated inner product of the rows scaled to unit length. -/
def distOf (x k : Fin n → EReal) : EReal := -∑ d, unitOf x d * unitOf k d

theorem distOf_ne_bot (x k : Fin n → EReal) : distOf x k ≠ ⊥ := by
  choose y hy using unitOf_real x
  choose z hz using unitOf_real k
  have : distOf x k = ((-∑ d, y d * z d : ℝ) : EReal) := by
    unfold distOf
    rw [EReal.coe_neg, ← coe_sum]
    exact congrArg _ (Finset.sum_congr rfl fun d _ => by rw [hy d, hz d, EReal.coe_mul])
  rw [this]
  exact EReal.coe_ne_bot _

/-- What a value leaves when itself is taken from it. -/
theorem sub_self_real {a : EReal} (h : ∃ y : ℝ, a = (y : EReal)) : a - a = 0 := by
  obtain ⟨y, rfl⟩ := h
  rw [← EReal.coe_sub, sub_self]
  rfl

end Cert.Value

end
-- ==== Proof.Value.Scores.lean ====
/-
  The scoring kernel's distances over the extended reals: of the three-term splits only the leading terms are not zero, and their product is the
  inner product of the scaled rows.
-/
module

public import proofs.«01_k».proof.Proof.Value.Unit
public import proofs.«01_k».proof.Proof.IdealRun.Score
public import Idealize.ShloMosaic.Lib.Pointwise

@[expose] public section

set_option maxRecDepth 16384

noncomputable section

namespace Cert.Value

open Cert.KernelIdeal Cert.KernelIdeal.Gen Cert.KernelIdeal.Run
open Idealize.ShloMosaic

/-- Row `i` of a matrix. -/
abbrev rowOf {n k : ℕ} (v : (⟨2, ![n, k]⟩ : Shape).Idx → EReal) (i : Fin n) : Fin k → EReal := fun d => v (ix2 i d)

/-- The queries' rows scaled. -/
theorem pay14_apply (x : FVec Ideal S1024x768 .f32) (i : Fin 1024) (d : Fin 768) : k0_pay14 (F := Ideal) x (ix2 i d) = unitOf (rowOf x i) d := by
  pointwise [k0_pay14]
  rfl

/-- A block of keys with its rows scaled, as the kernel computes it. -/
def keyUnits (v3 : FVec Ideal S512x768 .f32) : FVec Ideal S512x768 .f32 :=
  mulf v3 (broadcastTo S512x768 (rsqrt (maximumf (shapeCast S512x1 (multiReduction .add [1] S512 (mulf v3 v3) 0x00000000#32 reduces_S512x768_S512 (.inl rfl) rfl) shapeCasts_S512_S512x1)
    (broadcast S512x1 (Scalar.ofBits .f32 0x2B8CBCCC#32)))) broadcasts_S512x1_S512x768)

theorem keyUnits_apply (kb : FVec Ideal S512x768 .f32) (r : Fin 512) (d : Fin 768) : keyUnits kb (ix2 r d) = unitOf (rowOf kb r) d := by
  pointwise [keyUnits]
  rfl

/-- A product of a block of keys with the queries. -/
def prod (a : FVec Ideal S512x768 .bf16) (b : FVec Ideal S1024x768 .bf16) : FVec Ideal S512x1024 .f32 :=
  matmul dot_S512x768_S1024x768_S512x1024_1_1_0_0_n_n none a b (constant S512x1024 .f32 0x00000000#32)

theorem prod_apply (a : FVec Ideal S512x768 .bf16) (b : FVec Ideal S1024x768 .bf16) (r : Fin 512) (c : Fin 1024) :
    prod a b (ix2 r c) = ∑ d : Fin 768, a (ix2 r d) * b (ix2 c d) := by
  pointwise [prod, dot_S512x768_S1024x768_S512x1024_1_1_0_0_n_n]

theorem prod_zero_left (b : FVec Ideal S1024x768 .bf16) (j : S512x1024.Idx) : prod (fun _ => 0) b j = 0 := by
  obtain ⟨a', b', rfl⟩ : ∃ a b, j = ix2 a b := ⟨j 0, j 1, eq_ix2 j⟩
  rw [prod_apply]
  exact Finset.sum_eq_zero fun d _ => zero_mul _
theorem prod_zero_right (a : FVec Ideal S512x768 .bf16) (j : S512x1024.Idx) : prod a (fun _ => 0) j = 0 := by
  obtain ⟨a', b', rfl⟩ : ∃ a b, j = ix2 a b := ⟨j 0, j 1, eq_ix2 j⟩
  rw [prod_apply]
  exact Finset.sum_eq_zero fun d _ => mul_zero _

/-- What is left of a real array once its leading term is taken. -/
theorem low_zero {s : Shape} (v : FVec Ideal s .f32) (h : ∀ j, ∃ y : ℝ, (v j : EReal) = (y : EReal)) :
    subf v (extf .f32 (truncf .bf16 v bitsLt_bf16_f32) bitsLt_bf16_f32) = fun _ => (0 : EReal) :=
  funext fun j => sub_self_real (h j)
theorem low_low_zero {s : Shape} (v : FVec Ideal s .f32) (h : v = fun _ => (0 : EReal)) :
    subf v (extf .f32 (truncf .bf16 v bitsLt_bf16_f32) bitsLt_bf16_f32) = fun _ => (0 : EReal) :=
  low_zero v fun j => ⟨0, by rw [h]; rfl⟩

theorem pay14_real (x : FVec Ideal S1024x768 .f32) (j : S1024x768.Idx) : ∃ y : ℝ, (k0_pay14 (F := Ideal) x j : EReal) = (y : EReal) := by
  obtain ⟨a', b', rfl⟩ : ∃ a b, j = ix2 a b := ⟨j 0, j 1, eq_ix2 j⟩
  rw [pay14_apply]; exact unitOf_real _ _
theorem keyUnits_real (kb : FVec Ideal S512x768 .f32) (j : S512x768.Idx) : ∃ y : ℝ, (keyUnits kb j : EReal) = (y : EReal) := by
  obtain ⟨a', b', rfl⟩ : ∃ a b, j = ix2 a b := ⟨j 0, j 1, eq_ix2 j⟩
  rw [keyUnits_apply]; exact unitOf_real _ _

theorem pay16_zero (x : FVec Ideal S1024x768 .f32) : k0_pay16 (F := Ideal) x = fun _ => (0 : EReal) := low_zero _ (pay14_real x)
theorem pay18_eq (x : FVec Ideal S1024x768 .f32) : k0_pay18 (F := Ideal) x = k0_pay14 (F := Ideal) x := shapeCast_self _ _
theorem pay19_eq (x : FVec Ideal S1024x768 .f32) : k0_pay19 (F := Ideal) x = fun _ => (0 : EReal) := (shapeCast_self _ _).trans (pay16_zero x)
theorem pay20_eq (x : FVec Ideal S1024x768 .f32) : k0_pay20 (F := Ideal) x = fun _ => (0 : EReal) :=
  (shapeCast_self _ _).trans (low_low_zero _ (pay16_zero x))

/-- The six products of the splits. -/
theorem pay21_eq (kb : FVec Ideal S512x768 .f32) (a b c : FVec Ideal S1024x768 .bf16) (j : S512x1024.Idx) (k2 k3 : FVec Ideal S512x768 .f32)
    (h2 : subf (keyUnits kb) (extf .f32 (truncf .bf16 (keyUnits kb) bitsLt_bf16_f32) bitsLt_bf16_f32) = k2)
    (h3 : subf k2 (extf .f32 (truncf .bf16 k2 bitsLt_bf16_f32) bitsLt_bf16_f32) = k3) :
    (k0_pay21 (F := Ideal) kb a b c j : EReal)
      = Ideal.ofBits .f32 0x00000000#32 - ((prod (keyUnits kb) a j + (prod (keyUnits kb) b j + prod k2 a j)) + ((prod (keyUnits kb) c j + prod k2 b j) + prod k3 a j)) := by
  subst h2 h3
  rfl

/-- The kernel's distance of query `c` and row `r` of a block. -/
theorem dist_apply (x : FVec Ideal S1024x768 .f32) (kb : FVec Ideal S512x768 .f32) (r : Fin 512) (c : Fin 1024) :
    dist (F := Ideal) x kb (ix2 r c) = distOf (rowOf x c) (rowOf kb r) := by
  have h2 := low_zero _ (keyUnits_real kb)
  have h3 := low_low_zero (s := S512x768) _ rfl
  refine (pay21_eq kb _ _ _ (ix2 r c) _ _ h2 h3).trans ?_
  rw [pay18_eq, pay19_eq, pay20_eq, prod_zero_right, prod_zero_left, prod_zero_right, prod_apply, Ideal.ofBits_zero_f32]
  simp only [add_zero, zero_sub]
  unfold distOf
  refine congrArg _ (Finset.sum_congr rfl fun d _ => ?_)
  rw [keyUnits_apply, pay14_apply, mul_comm]

end Cert.Value

end
-- ==== Proof.Value.Gathered.lean ====
/-
  What the gather leaves: the pieces of the chosen half rows, read as the whole rows.
-/
module

public import proofs.«01_k».proof.Proof.Value.Column
public import proofs.«01_k».proof.Proof.IdealRun.HostChain

@[expose] public section

noncomputable section

namespace Cert.Value

open Cert.KernelIdeal Cert.KernelIdeal.Gen Cert.KernelIdeal.Run
open Idealize.ShloMosaic Idealize.ShloMosaic.ValueIdx

/-- Where query `b`'s `k`-th half rows name key `q`, the result there is row `q` of the table. -/
theorem out_apply {F : FTy → Type} (table : S8192x16x768.Idx → F .f32) (sel : IVec S8x1024 32) (b : Fin 1024) (k : Fin 4) (t : Fin 16) (e : Fin 768) (q : Fin 8192)
    (h0 : sel (ix2 ⟨2 * k.val, by omega⟩ b) = IntOp.muli 2#32 (word q)) (h1 : sel (ix2 ⟨2 * k.val + 1, by omega⟩ b) = IntOp.addi (IntOp.muli 2#32 (word q)) 1#32) :
    shapeCast S1024x4x16x768 (gathered (F := F) (shapeCast S786432x128 table shapeCasts_S8192x16x768_S786432x128) (words sel)) shapeCasts_S393216x128_S1024x4x16x768 (ix4 b k t e)
      = table (ix3 q t e) := by
  have hb := b.isLt
  have hk := k.isLt
  have ht := t.isLt
  have he := e.isLt
  have hq := q.isLt
  obtain ⟨u, hu⟩ : ∃ u, u = 6 * t.val + e.val / 128 := ⟨_, rfl⟩
  have hu96 : u < 96 := by omega
  obtain ⟨p, hp⟩ : ∃ p, p = 96 * (4 * b.val + k.val) + u := ⟨_, rfl⟩
  have hplt : p < 393216 := by omega
  -- the word there
  have hsel : ∀ (r : Fin 8) (c : Fin 1024), r.val = 2 * k.val + u / 48 → c.val = b.val → (sel (ix2 r c)).toNat = 2 * q.val + u / 48 := fun r c hr hc => by
    obtain rfl : c = b := Fin.ext hc
    have hu2 : u / 48 = 0 ∨ u / 48 = 1 := by omega
    rcases hu2 with h | h
    · rw [show r = ⟨2 * k.val, by omega⟩ from Fin.ext (by rw [hr, h]; rfl), h0, h]
      show (2#32 * word q).toNat = _
      rw [BitVec.toNat_mul, word_toNat]
      show 2 * q.val % 2 ^ 32 = _
      omega
    · rw [show r = ⟨2 * k.val + 1, by omega⟩ from Fin.ext (by rw [hr, h]), h1, h]
      show (2#32 * word q + 1#32).toNat = _
      rw [BitVec.toNat_add, BitVec.toNat_mul, word_toNat]
      show (2 * q.val % 2 ^ 32 + 1) % 2 ^ 32 = _
      omega
  have hword : (wordOf (words sel) ⟨p, hplt⟩).toNat = 96 * q.val + u := by
    unfold wordOf
    rw [words_at]
    show (sel (ix2 _ _) * 48#32 + BitVec.ofNat 32 _).toNat = _
    have e0 : 384 * (p / 384) + p % 384 = p := Nat.div_add_mod p 384
    rw [BitVec.toNat_add, BitVec.toNat_mul, hsel _ _ (by show (384 * (p / 384) + p % 384) / 48 % 8 = _; rw [e0]; omega) (by show (384 * (p / 384) + p % 384) / 48 / 8 = _; rw [e0]; omega),
      BitVec.toNat_ofNat]
    show ((2 * q.val + u / 48) * 48 % 2 ^ 32 + (384 * (p / 384) + p % 384) % 48 % 2 ^ 32) % 2 ^ 32 = _
    rw [e0]
    omega
  refine (shapeCast_apply _ _ (ix4 b k t e) (ix2 (⟨p, hplt⟩ : Fin 393216) (⟨e.val % 128, by omega⟩ : Fin 128)) ?_).trans ?_
  · rw [Shape.rowMajor_val_two, Shape.rowMajor_val_four]
    show p * 128 + e.val % 128 = ((b.val * 4 + k.val) * 16 + t.val) * 768 + e.val
    omega
  · refine shapeCast_apply _ _ _ (ix3 q t e) ?_
    rw [Shape.rowMajor_val_two, Shape.rowMajor_val_three]
    show (q.val * 16 + t.val) * 768 + e.val = (wordOf (words sel) ⟨p, hplt⟩).toNat % 786432 * 128 + e.val % 128
    rw [hword]
    omega

end Cert.Value

end
-- ==== Proof.Value.Reference.lean ====
/-
  What the reference computes: the distances of every query and key, and the four keys that a stable descending sort of them puts first.
-/
module

public import proofs.«01_k».proof.Proof.Gen.ReferenceIdeal.Run
public import proofs.«01_k».proof.Proof.Value.Unit
public import proofs.«01_k».proof.Proof.Top
public import Idealize.ShloMosaic.Lib.Pointwise

@[expose] public section

set_option maxRecDepth 16384

noncomputable section

namespace Cert.Value

open Cert.ReferenceIdeal Cert.ReferenceIdeal.Gen Cert.Top
open Idealize.ShloMosaic Idealize.ShloMosaic.TcCoe Idealize.SL.Sem Idealize.ShloMosaic.StableHlo

/-- The reference's distances. -/
def refDist (x : FVec Ideal S1024x768 .f32) (keys : FVec Ideal S8192x768 .f32) : FVec Ideal S1024x8192 .f32 :=
  have x3 : FVec Ideal S1024x1x768 .f32 := broadcastInDim S1024x1x768 ![0, 2] bcast_S1024x768_S1024x1x768_0_2 x
  Host.negf (Host.reduceAdd (mulf
    (broadcastInDim S1024x8192x768 ![0, 1, 2] bcast_S1024x1x768_S1024x8192x768_0_1_2
      (mulf x3 (broadcastInDim S1024x1x768 ![0, 1, 2] bcast_S1024x1x1_S1024x1x768_0_1_2
        (Host.rsqrt (maximumf (broadcastInDim S1024x1x1 ![0, 1] bcast_S1024x1_S1024x1x1_0_1 (Host.reduceAdd (mulf x3 x3) (constant S_ .f32 0x00000000#32) reducesTo_S1024x1x768_S1024x1_d2 h_S_))
          (broadcastInDim S1024x1x1 ![] bcast_S_S1024x1x1 (constant S_ .f32 0x2B8CBCCC#32)))))))
    (broadcastInDim S1024x8192x768 ![0, 1, 2] bcast_S1x8192x768_S1024x8192x768_0_1_2 (broadcastInDim S1x8192x768 ![1, 2] bcast_S8192x768_S1x8192x768_1_2
      (mulf keys (broadcastInDim S8192x768 ![0, 1] bcast_S8192x1_S8192x768_0_1
        (Host.rsqrt (maximumf (broadcastInDim S8192x1 ![0] bcast_S8192_S8192x1_0 (Host.reduceAdd (mulf keys keys) (constant S_ .f32 0x00000000#32) reducesTo_S8192x768_S8192_d1 h_S_))
          (broadcastInDim S8192x1 ![] bcast_S_S8192x1 (constant S_ .f32 0x2B8CBCCC#32)))))))))
    (constant S_ .f32 0x00000000#32) reducesTo_S1024x8192x768_S1024x8192_d2 h_S_)

theorem refDist_apply (x : FVec Ideal S1024x768 .f32) (keys : FVec Ideal S8192x768 .f32) (b : Fin 1024) (g : Fin 8192) :
    (refDist x keys (ix2 b g) : EReal) = distOf (fun d => x (ix2 b d)) (fun d => keys (ix2 g d)) := by
  pointwise [refDist]
  rfl

/-- The reference's selection. -/
def refPick (s : FVec Ideal S1024x8192 .f32) : IVec S1024x4 32 := (Host.topK S1024x4 1 (FloatOps.cmpfTotal (F := Ideal) (φ := .f32) .gt) s sliceFits_S1024x8192_S1024x4).2

theorem along_row (b : Fin 1024) (i g : Fin 8192) (h : 1 < S1024x8192.rank) : Shape.Idx.along (s := S1024x8192) (ix2 b i) ⟨1, h⟩ g = ix2 b g := by
  funext a
  match a with
  | ⟨0, _⟩ => rfl
  | ⟨1, _⟩ => rfl

/-- A row sorted by its scores, with what is carried along. -/
theorem sort2_row (x : FVec Ideal S1024x8192 .f32) (y : IVec S1024x8192 32) (b : Fin 1024) (i : Fin 8192) :
    (Host.sort2 S1024x8192 1 (fun l r => FloatOps.cmpfTotal (F := Ideal) (φ := .f32) .gt l.1 r.1) x y).2 (ix2 b i)
      = y (ix2 b (sortedFrom (fun g g' : Fin 8192 => FloatOps.cmpfTotal (F := Ideal) (φ := .f32) .gt (x (ix2 b g)) (x (ix2 b g')) == 1#1) i)) := by
  unfold Host.sort2
  have hd : 1 < S1024x8192.rank := by decide
  rw [dif_pos hd]
  refine (congrArg y (along_row b i _ _)).trans ?_
  refine congrArg (fun g : Fin 8192 => y (ix2 b g)) ?_
  have hB : (fun g g' : Fin 8192 => FloatOps.cmpfTotal (F := Ideal) (φ := .f32) .gt (x (Shape.Idx.along (s := S1024x8192) (ix2 b i) ⟨1, hd⟩ g))
      (x (Shape.Idx.along (s := S1024x8192) (ix2 b i) ⟨1, hd⟩ g')) == 1#1)
      = fun g g' : Fin 8192 => FloatOps.cmpfTotal (F := Ideal) (φ := .f32) .gt (x (ix2 b g)) (x (ix2 b g')) == 1#1 :=
    funext fun g => funext fun g' => by rw [along_row, along_row]
  exact congrFun (congrArg (sortedFrom (n := 8192)) hB) i

theorem refPick_spec (s : FVec Ideal S1024x8192 .f32) (b : Fin 1024) :
    ∃ p : ℕ → Fin 8192, Leads (fun g : Fin 8192 => (s (ix2 b g) : EReal)) Finset.univ 4 p
      ∧ ∀ k : Fin 4, refPick s (ix2 b k) = BitVec.ofNat 32 (p k.val).val := by
  refine ⟨_, leads_sortedFrom (fun g : Fin 8192 => (s (ix2 b g) : EReal))
    (fun k k' => FloatOps.cmpfTotal (F := Ideal) (φ := .f32) .gt (s (ix2 b k)) (s (ix2 b k')) == 1#1) (fun k k' => ?_) (by omega) 4 (by omega), fun k => ?_⟩
  · show (BitVec.ofBool (decide ((s (ix2 b k') : EReal) < s (ix2 b k))) == 1#1) = true ↔ _
    by_cases h : (s (ix2 b k') : EReal) < s (ix2 b k) <;> simp [h]
  · unfold refPick Host.topK
    dsimp only
    refine (extractStridedSlice_apply _ _ _ (ix2 b k) (ix2 b (⟨k.val, by omega⟩ : Fin 8192)) fun a => ?_).trans ?_
    · match a with
      | ⟨0, _⟩ => exact (Nat.zero_add _).symm
      | ⟨1, _⟩ => exact (Nat.zero_add _).symm
    refine (sort2_row s _ b ⟨k.val, by omega⟩).trans ?_
    rw [dif_pos (show 1 < S1024x8192.rank by decide), dif_pos (show k.val < 8192 by omega)]
    generalize sortedFrom _ _ = σ
    rfl

/-- The reference's gather: rows of the table at the chosen keys, a row out of range filled. -/
def refTake (table : FVec Ideal S8192x16x768 .f32) (ix : IVec S1024x4 32) : FVec Ideal S1024x4x16x768 .f32 :=
  have at3 : IVec S1024x4x1 32 := broadcastInDim S1024x4x1 ![0, 1] bcast_S1024x4_S1024x4x1_0_1
    (select (cmpi .slt ix (broadcastInDim S1024x4 ![] bcast_S_S1024x4 (constantI S_ 32 0#32))) (addi ix (broadcastInDim S1024x4 ![] bcast_S_S1024x4 (constantI S_ 32 8192#32))) ix)
  select (broadcastInDim S1024x4x16x768 ![0, 1] bcast_S1024x4_S1024x4x16x768_0_1
      (Host.reduce IntOp.andi (andi (cmpi .sge at3 (broadcastInDim S1024x4x1 ![] bcast_S_S1024x4x1 (constantI S_ 32 0#32)))
          (cmpi .sle at3 (broadcastInDim S1024x4x1 ![0, 1, 2] bcast_S1x1x1_S1024x4x1_0_1_2 (broadcastInDim S1x1x1 ![2] bcast_S1_S1x1x1_2 (constantI S1 32 8191#32)))))
        (constantI S_ 1 1#1) reducesTo_S1024x4x1_S1024x4_d2 h_S_))
    (Host.gather gather_S8192x16x768_S1024x4x1_S1024x4x16x768_23_0_n_n_0_2_116768 table at3)
    (broadcastInDim S1024x4x16x768 ![] bcast_S_S1024x4x16x768 (constant S_ .f32 0x7FC00000#32))

/-- The start-indices index `[b, k, 0]`. -/
theorem gather_apply (table : FVec Ideal S8192x16x768 .f32) (ix : IVec S1024x4x1 32) (b : Fin 1024) (k : Fin 4) (t : Fin 16) (e : Fin 768) (q : Fin 8192)
    (h : ix (ix3 b k 0) = BitVec.ofNat 32 q.val) :
    Host.gather gather_S8192x16x768_S1024x4x1_S1024x4x16x768_23_0_n_n_0_2_116768 table ix (ix4 b k t e) = table (ix3 q t e) := by
  have hq : (BitVec.ofNat 32 q.val).toInt.toNat = q.val := by
    have := q.isLt
    rw [BitVec.toInt_ofNat']
    simp only [Int.bmod]
    omega
  have hs : ∀ a : Fin 3, a ≠ 0 → GatherDims.start gather_S8192x16x768_S1024x4x1_S1024x4x16x768_23_0_n_n_0_2_116768 (ix4 b k t e) ix a = 0 := fun a ha => by
    unfold GatherDims.start
    exact dif_neg fun h => ha (List.mem_singleton.mp h)
  unfold Host.gather
  refine congrArg table (funext fun a => Fin.ext ?_)
  show GatherDims.start _ _ ix a + GatherDims.batchCoord _ _ a + GatherDims.offCoord _ _ a = _
  rw [GatherDims.batchCoord_eq_zero _ _ _ List.not_mem_nil, Nat.add_zero]
  match a with
  | ⟨0, _⟩ =>
    rw [GatherDims.offCoord_eq_zero _ _ _ (fun h => ((GatherDims.mem_sKept _ _).mp h).1 (List.mem_singleton.mpr rfl)), Nat.add_zero]
    unfold GatherDims.start
    refine (dif_pos (show (0 : Fin 3) ∈ [(0 : Fin 3)] from List.mem_singleton.mpr rfl)).trans ?_
    refine (congrArg (fun w : BitVec 32 => min w.toInt.toNat 8191) (Eq.trans (congrArg ix ?_) h)).trans ?_
    · funext b
      match b with
      | ⟨0, _⟩ => rfl
      | ⟨1, _⟩ => rfl
      | ⟨2, _⟩ => rfl
    · show min (BitVec.ofNat 32 q.val).toInt.toNat 8191 = q.val
      rw [hq]
      have := q.isLt
      omega
  | ⟨1, _⟩ =>
    exact (congrArg (· + _) (hs 1 (by decide))).trans (Nat.zero_add _)
  | ⟨2, _⟩ =>
    exact (congrArg (· + _) (hs 2 (by decide))).trans (Nat.zero_add _)

theorem refTake_apply (table : FVec Ideal S8192x16x768 .f32) (ix : IVec S1024x4 32) (b : Fin 1024) (k : Fin 4) (t : Fin 16) (e : Fin 768) (q : Fin 8192)
    (h : ix (ix2 b k) = BitVec.ofNat 32 q.val) : refTake table ix (ix4 b k t e) = table (ix3 q t e) := by
  have hq : (BitVec.ofNat 32 q.val).toInt = q.val := by
    have := q.isLt
    rw [BitVec.toInt_ofNat']
    simp only [Int.bmod]
    omega
  have hlt := q.isLt
  have hneg : IntOp.cmpi .slt (BitVec.ofNat 32 q.val) 0#32 = 0#1 := by
    show BitVec.ofBool (decide ((BitVec.ofNat 32 q.val).toInt < (0#32 : BitVec 32).toInt)) = 0#1
    rw [hq, decide_eq_false (by show ¬ ((q.val : Int) < 0); omega)]
    rfl
  have hge : IntOp.cmpi .sge (BitVec.ofNat 32 q.val) 0#32 = 1#1 := by
    show BitVec.ofBool (decide ((0#32 : BitVec 32).toInt ≤ (BitVec.ofNat 32 q.val).toInt)) = 1#1
    rw [hq, decide_eq_true (by show (0 : Int) ≤ q.val; omega)]
    rfl
  have hle : IntOp.cmpi .sle (BitVec.ofNat 32 q.val) 8191#32 = 1#1 := by
    show BitVec.ofBool (decide ((BitVec.ofNat 32 q.val).toInt ≤ (8191#32 : BitVec 32).toInt)) = 1#1
    rw [hq, decide_eq_true (by show (q.val : Int) ≤ 8191; omega)]
    rfl
  have hsel : Scalar.select (0#1) (IntOp.addi (BitVec.ofNat 32 q.val) 8192#32) (BitVec.ofNat 32 q.val) = BitVec.ofNat 32 q.val := rfl
  unfold refTake
  pointwise [h]
  simp only [hneg, hsel, hge, hle]
  rw [show Finset.fold IntOp.andi (1#1) (fun _ : Fin 1 => IntOp.andi 1#1 1#1) Finset.univ = 1#1 from rfl]
  show Host.gather _ _ _ _ = _
  refine gather_apply table _ b k t e q ?_
  pointwise [h]
  rw [hneg, hsel]

theorem res_eq (m : (ℓ : Loc nD τ sig) → Buf (Elt Ideal) ℓ) (c : Dev nD) :
    Cert.ReferenceIdeal.Value.res_main_v23 m c
      = refTake (m ((c.tc : Thread nD τ).loc main_arg2)) (refPick (refDist (m ((c.tc : Thread nD τ).loc main_arg0)) (m ((c.tc : Thread nD τ).loc main_arg1)))) := by
  unfold Cert.ReferenceIdeal.Value.res_main_v23
  rfl

end Cert.Value

end
-- ==== Proof.Algebraic.lean ====
/-
  Over the extended reals the kernel leaves what the reference leaves: both select the same four keys for every query, and the gather of the chosen
  pieces is the reference's take of the chosen rows.
-/
module

public import proofs.«01_k».proof.Defs
public import proofs.«01_k».proof.Proof.IdealRun.Launch
public import proofs.«01_k».proof.Proof.Value.Chosen
public import proofs.«01_k».proof.Proof.Value.Scores
public import proofs.«01_k».proof.Proof.Value.Gathered
public import proofs.«01_k».proof.Proof.Value.Reference

@[expose] public section

noncomputable section

namespace Cert.Value

open Cert.KernelIdeal Cert.KernelIdeal.Gen Cert.KernelIdeal.Run Cert.Top
open Idealize.ShloMosaic Idealize.ShloMosaic.TcCoe Idealize.SL.Sem

/-- Row `r` of block `t` of the keys. -/
theorem kblk_apply (keys : S8192x768.Idx → Ideal .f32) (t : Fin 16) (r : Fin 512) (d : Fin 768) :
    kblk (F := Ideal) keys (ptOf t) (ValueIdx.ix2 r d) = keys (ValueIdx.ix2 (pos t r) d) := by
  show keys _ = keys _
  refine congrArg keys (funext fun a => Fin.ext ?_)
  have ht := t.isLt
  have e0 := coords_zero (ptOf t)
  match a with
  | 0 =>
    show (BitVec.ofNat 32 (grid0.coords (ptOf t) 0).val).toNat * 512 + 1 * r.val = 512 * t.val + r.val
    rw [e0, BitVec.toNat_ofNat]
    show t.val % 2 ^ 32 * 512 + 1 * r.val = _
    omega
  | 1 => show 0 * 768 + 1 * d.val = d.val; omega

/-- The kernel's result is the reference's. -/
theorem result_eq (x : S1024x768.Idx → Ideal .f32) (keys : S8192x768.Idx → Ideal .f32) (table : S8192x16x768.Idx → Ideal .f32) :
    shapeCast S1024x4x16x768 (gathered (F := Ideal) (shapeCast S786432x128 table shapeCasts_S8192x16x768_S786432x128) (words (chosen (F := Ideal) x keys)))
        shapeCasts_S393216x128_S1024x4x16x768
      = refTake table (refPick (refDist x keys)) := by
  funext j
  obtain ⟨b, k, t, e, rfl⟩ : ∃ (b : Fin 1024) (k : Fin 4) (t : Fin 16) (e : Fin 768), j = ValueIdx.ix4 b k t e := ⟨j 0, j 1, j 2, j 3, ValueIdx.eq_ix4 j⟩
  obtain ⟨q, hq, hsel⟩ := chosen_spec x keys b (fun g => distOf (fun d => x (ValueIdx.ix2 b d)) fun d => keys (ValueIdx.ix2 g d)) (fun g => distOf_ne_bot _ _)
    fun t r => (dist_apply x (kblk keys (ptOf t)) r b).trans (congrArg (distOf _) (funext fun d => kblk_apply keys t r d))
  obtain ⟨p, hp, hpick⟩ := refPick_spec (refDist x keys) b
  rw [show (fun g : Fin 8192 => (refDist x keys (ix2 b g) : EReal)) = fun g => distOf (fun d => x (ValueIdx.ix2 b d)) fun d => keys (ValueIdx.ix2 g d) from
    funext fun g => refDist_apply x keys b g] at hp
  refine (out_apply table _ b k t e (q k.val) (hsel k).1 (hsel k).2).trans ?_
  rw [hq.unique hp k.val k.isLt]
  exact (refTake_apply table _ b k t e (p k.val) (hpick k)).symm

end Cert.Value

namespace Cert.Proof

open Idealize.ShloMosaic Idealize.SL.Sem

theorem algebraic : @Cert.algebraic_KernelIdeal_ReferenceIdeal Cert.KernelIdeal.Gen.facts Cert.ReferenceIdeal.Gen.facts := fun m ρ m' ρ' _ hargs =>
  ⟨fun c => Cert.KernelIdeal.Run.outV (F := Ideal) m c,
   (θ_run Cert.KernelIdeal.defs _ _).mono (fun _ h => h.1) (Cert.KernelIdeal.Run.run_main (F := Ideal) m ρ),
   (θ_run Cert.ReferenceIdeal.defs _ _).mono (fun _ h c => ⟨(h c).1.trans (((Cert.Value.res_eq m' c).trans (by
      obtain ⟨h0, h1, h2⟩ := hargs c
      rw [h0, h1, h2]
      exact (Cert.Value.result_eq _ _ _).symm))), (h c).2⟩) (Cert.ReferenceIdeal.Value.run (F := Ideal) m' ρ')⟩

end Cert.Proof

end
-- ==== Proof.lean ====
/-
  The claims of this certificate, assembled.
-/
module

public import proofs.«01_k».proof.Defs
public import proofs.«01_k».proof.Proof.Gen.ReferenceIdeal.Run
public import proofs.«01_k».proof.Proof.Frames
public import proofs.«01_k».proof.Proof.Algebraic

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  frame_kernel, frame_ideal, frame_reference, trivial, algebraic⟩

end Cert.Proof

end
